-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v27_0) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S24x1x4096 : Shape := ⟨3, ![24, 1, 4096]⟩
abbrev S16384x4096 : Shape := ⟨2, ![16384, 4096]⟩
abbrev S128x32 : Shape := ⟨2, ![128, 32]⟩
abbrev S_ : Shape := ⟨0, ![]⟩

class Facts : Prop where
  bitsLt_bf16_f32 : FTy.bits .bf16 < FTy.bits .f32
  bcast_S_S24x1x4096 : S_.BroadcastsInDim S24x1x4096 (![] : Fin 0 → Fin S24x1x4096.rank)

variable [Facts]

def fn {F : FTy → Type} [FloatOps F] (main_arg0 : FVec F S24x1x4096 .bf16) (main_arg1 : FVec F S16384x4096 .fp8e4m3) (main_arg2 : FVec F S128x32 .f32) : IVec S24x1x4096 1 :=
  let main_v0 : FVec F S24x1x4096 .f32 := (extf .f32 · bitsLt_bf16_f32) main_arg0
  let main_v1 : FVec F S24x1x4096 .f32 := Host.absf main_v0
  let main_cst : FVec F S_ .f32 := constant S_ .f32 0x7F7F0000#32
  let main_v2 : FVec F S24x1x4096 .f32 := broadcastInDim S24x1x4096 ![] bcast_S_S24x1x4096 main_cst
  let main_v3 : IVec S24x1x4096 1 := cmpf .ole main_v1 main_v2
  main_v3
-- ==== Kernel.lean ====
abbrev S24x1x4096 : Shape := ⟨3, ![24, 1, 4096]⟩
abbrev S16384x4096 : Shape := ⟨2, ![16384, 4096]⟩
abbrev S128x32 : Shape := ⟨2, ![128, 32]⟩
abbrev S24x4096 : Shape := ⟨2, ![24, 4096]⟩
abbrev S24x16384 : Shape := ⟨2, ![24, 16384]⟩
abbrev S24x32 : Shape := ⟨2, ![24, 32]⟩
abbrev S512x4096 : Shape := ⟨2, ![512, 4096]⟩
abbrev S24x512 : Shape := ⟨2, ![24, 512]⟩
abbrev S16x64x256 : Shape := ⟨3, ![16, 64, 256]⟩
abbrev S32x24x128 : Shape := ⟨3, ![32, 24, 128]⟩
abbrev S32x128 : Shape := ⟨2, ![32, 128]⟩
abbrev S8x128 : Shape := ⟨2, ![8, 128]⟩
abbrev S24x128 : Shape := ⟨2, ![24, 128]⟩
abbrev S24 : Shape := ⟨1, ![24]⟩
abbrev S24x1 : Shape := ⟨2, ![24, 1]⟩
abbrev S24x256 : Shape := ⟨2, ![24, 256]⟩
abbrev S1x32x128 : Shape := ⟨3, ![1, 32, 128]⟩
abbrev S1x24x128 : Shape := ⟨3, ![1, 24, 128]⟩
abbrev S1x64x256 : Shape := ⟨3, ![1, 64, 256]⟩
abbrev S64x256 : Shape := ⟨2, ![64, 256]⟩
abbrev S512x256 : Shape := ⟨2, ![512, 256]⟩
abbrev S64x512 : Shape := ⟨2, ![64, 512]⟩
abbrev S1x1 : Shape := ⟨2, ![1, 1]⟩

abbrev nBuf : Space → Nat
  | .hbm => 7
  | .vmem => 9
  | .smem => 1
  | _ => 0

abbrev bufTy : (tb : Table) → Fin (tcTables nBuf tb) → BufTy
  | .hbm, ⟨0, _⟩ => ⟨S24x1x4096, .bf16⟩
  | .hbm, ⟨1, _⟩ => ⟨S16384x4096, .fp8e4m3⟩
  | .hbm, ⟨2, _⟩ => ⟨S128x32, .f32⟩
  | .hbm, ⟨3, _⟩ => ⟨S24x4096, .bf16⟩
  | .hbm, ⟨4, _⟩ => ⟨S24x16384, .bf16⟩
  | .hbm, ⟨5, _⟩ => ⟨S24x4096, .fp8e4m3⟩
  | .hbm, ⟨6, _⟩ => ⟨S24x32, .f32⟩
  | .local _ .vmem, ⟨0, _⟩ => ⟨S24x4096, .bf16⟩
  | .local _ .vmem, ⟨1, _⟩ => ⟨S512x4096, .fp8e4m3⟩
  | .local _ .vmem, ⟨2, _⟩ => ⟨S512x4096, .fp8e4m3⟩
  | .local _ .vmem, ⟨3, _⟩ => ⟨S24x512, .bf16⟩
  | .local _ .vmem, ⟨4, _⟩ => ⟨S24x512, .bf16⟩
  | .local _ .vmem, ⟨5, _⟩ => ⟨S24x4096, .fp8e4m3⟩
  | .local _ .vmem, ⟨6, _⟩ => ⟨S24x32, .f32⟩
  | .local _ .vmem, ⟨7, _⟩ => ⟨S16x64x256, .fp8e4m3⟩
  | .local _ .vmem, ⟨8, _⟩ => ⟨S32x24x128, .f32⟩
  | .local _ .smem, ⟨0, _⟩ => ⟨S128x32, .f32⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

def k0_off1 (i : grid0.Coords) (c0_i32_12 : BitVec 32) : Fin 2 → Nat :=
  let arg0 : BitVec 32 := BitVec.ofNat 32 (i 0).val
  let c4_i32 : BitVec 32 := 4#32
  let v15 : BitVec 32 := Scalar.muli arg0 c4_i32
  let v16 : BitVec 32 := Scalar.addi v15 c0_i32_12
  let v17 : Index := Scalar.indexCast v16
  let c0_13 : Index := 0#32
  ![v17.toNat, 0]
def k0_off2 (i : grid0.Coords) (c0_i32_23 : BitVec 32) : Fin 2 → Nat :=
  let arg0 : BitVec 32 := BitVec.ofNat 32 (i 0).val
  let c4_i32_22 : BitVec 32 := 4#32
  let v53 : BitVec 32 := Scalar.muli arg0 c4_i32_22
  let v54 : BitVec 32 := Scalar.addi v53 c0_i32_23
  let v55 : Index := Scalar.indexCast v54
  let c1_24 : Index := 1#32
  ![v55.toNat, 1]
def k0_off3 (i : grid0.Coords) (c0_i32_42 : BitVec 32) : Fin 2 → Nat :=
  let arg0 : BitVec 32 := BitVec.ofNat 32 (i 0).val
  let c4_i32_41 : BitVec 32 := 4#32
  let v95 : BitVec 32 := Scalar.muli arg0 c4_i32_41
  let v96 : BitVec 32 := Scalar.addi v95 c0_i32_42
  let v97 : Index := Scalar.indexCast v96
  let c2_43 : Index := 2#32
  ![v97.toNat, 2]
def k0_off4 (i : grid0.Coords) (c0_i32_56 : BitVec 32) : Fin 2 → Nat :=
  let arg0 : BitVec 32 := BitVec.ofNat 32 (i 0).val
  let c4_i32_55 : BitVec 32 := 4#32
  let v133 : BitVec 32 := Scalar.muli arg0 c4_i32_55
  let v134 : BitVec 32 := Scalar.addi v133 c0_i32_56
  let v135 : Index := Scalar.indexCast v134
  let c3_57 : Index := 3#32
  ![v135.toNat, 3]
def k0_off5 (i : grid0.Coords) (c0_i32_75 : BitVec 32) : Fin 2 → Nat :=
  let arg0 : BitVec 32 := BitVec.ofNat 32 (i 0).val
  let c4_i32_74 : BitVec 32 := 4#32
  let v175 : BitVec 32 := Scalar.muli arg0 c4_i32_74
  let v176 : BitVec 32 := Scalar.addi v175 c0_i32_75
  let v177 : Index := Scalar.indexCast v176
  let c4_76 : Index := 4#32
  ![v177.toNat, 4]
def k0_off6 (i : grid0.Coords) (c0_i32_89 : BitVec 32) : Fin 2 → Nat :=
  let arg0 : BitVec 32 := BitVec.ofNat 32 (i 0).val
  let c4_i32_88 : BitVec 32 := 4#32
  let v213 : BitVec 32 := Scalar.muli arg0 c4_i32_88
  let v214 : BitVec 32 := Scalar.addi v213 c0_i32_89
  let v215 : Index := Scalar.indexCast v214
  let c5_90 : Index := 5#32
  ![v215.toNat, 5]
def k0_off7 (i : grid0.Coords) (c0_i32_108 : BitVec 32) : Fin 2 → Nat :=
  let arg0 : BitVec 32 := BitVec.ofNat 32 (i 0).val
  let c4_i32_107 : BitVec 32 := 4#32
  let v255 : BitVec 32 := Scalar.muli arg0 c4_i32_107
  let v256 : BitVec 32 := Scalar.addi v255 c0_i32_108
  let v257 : Index := Scalar.indexCast v256
  let c6_109 : Index := 6#32
  ![v257.toNat, 6]
def k0_off8 (i : grid0.Coords) (c0_i32_122 : BitVec 32) : Fin 2 → Nat :=
  let arg0 : BitVec 32 := BitVec.ofNat 32 (i 0).val
  let c4_i32_121 : BitVec 32 := 4#32
  let v293 : BitVec 32 := Scalar.muli arg0 c4_i32_121
  let v294 : BitVec 32 := Scalar.addi v293 c0_i32_122
  let v295 : Index := Scalar.indexCast v294
  let c7_123 : Index := 7#32
  ![v295.toNat, 7]
def k0_off9 (i : grid0.Coords) (c0_i32_141 : BitVec 32) : Fin 2 → Nat :=
  let arg0 : BitVec 32 := BitVec.ofNat 32 (i 0).val
  let c4_i32_140 : BitVec 32 := 4#32
  let v335 : BitVec 32 := Scalar.muli arg0 c4_i32_140
  let v336 : BitVec 32 := Scalar.addi v335 c0_i32_141
  let v337 : Index := Scalar.indexCast v336
  let c8_142 : Index := 8#32
  ![v337.toNat, 8]
def k0_off10 (i : grid0.Coords) (c0_i32_155 : BitVec 32) : Fin 2 → Nat :=
  let arg0 : BitVec 32 := BitVec.ofNat 32 (i 0).val
  let c4_i32_154 : BitVec 32 := 4#32
  let v373 : BitVec 32 := Scalar.muli arg0 c4_i32_154
  let v374 : BitVec 32 := Scalar.addi v373 c0_i32_155
  let v375 : Index := Scalar.indexCast v374
  let c9_156 : Index := 9#32
  ![v375.toNat, 9]
def k0_off11 (i : grid0.Coords) (c0_i32_174 : BitVec 32) : Fin 2 → Nat :=
  let arg0 : BitVec 32 := BitVec.ofNat 32 (i 0).val
  let c4_i32_173 : BitVec 32 := 4#32
  let v415 : BitVec 32 := Scalar.muli arg0 c4_i32_173
  let v416 : BitVec 32 := Scalar.addi v415 c0_i32_174
  let v417 : Index := Scalar.indexCast v416
  let c10_175 : Index := 10#32
  ![v417.toNat, 10]
def k0_off12 (i : grid0.Coords) (c0_i32_188 : BitVec 32) : Fin 2 → Nat :=
  let arg0 : BitVec 32 := BitVec.ofNat 32 (i 0).val
  let c4_i32_187 : BitVec 32 := 4#32
  let v453 : BitVec 32 := Scalar.muli arg0 c4_i32_187
  let v454 : BitVec 32 := Scalar.addi v453 c0_i32_188
  let v455 : Index := Scalar.indexCast v454
  let c11_189 : Index := 11#32
  ![v455.toNat, 11]
def k0_off13 (i : grid0.Coords) (c0_i32_207 : BitVec 32) : Fin 2 → Nat :=
  let arg0 : BitVec 32 := BitVec.ofNat 32 (i 0).val
  let c4_i32_206 : BitVec 32 := 4#32
  let v495 : BitVec 32 := Scalar.muli arg0 c4_i32_206
  let v496 : BitVec 32 := Scalar.addi v495 c0_i32_207
  let v497 : Index := Scalar.indexCast v496
  let c12_208 : Index := 12#32
  ![v497.toNat, 12]
def k0_off14 (i : grid0.Coords) (c0_i32_221 : BitVec 32) : Fin 2 → Nat :=
  let arg0 : BitVec 32 := BitVec.ofNat 32 (i 0).val
  let c4_i32_220 : BitVec 32 := 4#32
  let v533 : BitVec 32 := Scalar.muli arg0 c4_i32_220
  let v534 : BitVec 32 := Scalar.addi v533 c0_i32_221
  let v535 : Index := Scalar.indexCast v534
  let c13_222 : Index := 13#32
  ![v535.toNat, 13]
def k0_off15 (i : grid0.Coords) (c0_i32_240 : BitVec 32) : Fin 2 → Nat :=
  let arg0 : BitVec 32 := BitVec.ofNat 32 (i 0).val
  let c4_i32_239 : BitVec 32 := 4#32
  let v575 : BitVec 32 := Scalar.muli arg0 c4_i32_239
  let v576 : BitVec 32 := Scalar.addi v575 c0_i32_240
  let v577 : Index := Scalar.indexCast v576
  let c14_241 : Index := 14#32
  ![v577.toNat, 14]
def k0_off16 (i : grid0.Coords) (c0_i32_254 : BitVec 32) : Fin 2 → Nat :=
  let arg0 : BitVec 32 := BitVec.ofNat 32 (i 0).val
  let c4_i32_253 : BitVec 32 := 4#32
  let v613 : BitVec 32 := Scalar.muli arg0 c4_i32_253
  let v614 : BitVec 32 := Scalar.addi v613 c0_i32_254
  let v615 : Index := Scalar.indexCast v614
  let c15_255 : Index := 15#32
  ![v615.toNat, 15]
def k0_off17 (i : grid0.Coords) (c0_i32_273 : BitVec 32) : Fin 2 → Nat :=
  let arg0 : BitVec 32 := BitVec.ofNat 32 (i 0).val
  let c4_i32_272 : BitVec 32 := 4#32
  let v655 : BitVec 32 := Scalar.muli arg0 c4_i32_272
  let v656 : BitVec 32 := Scalar.addi v655 c0_i32_273
  let v657 : Index := Scalar.indexCast v656
  let c16_274 : Index := 16#32
  ![v657.toNat, 16]
def k0_off18 (i : grid0.Coords) (c0_i32_287 : BitVec 32) : Fin 2 → Nat :=
  let arg0 : BitVec 32 := BitVec.ofNat 32 (i 0).val
  let c4_i32_286 : BitVec 32 := 4#32
  let v693 : BitVec 32 := Scalar.muli arg0 c4_i32_286
  let v694 : BitVec 32 := Scalar.addi v693 c0_i32_287
  let v695 : Index := Scalar.indexCast v694
  let c17_288 : Index := 17#32
  ![v695.toNat, 17]
def k0_off19 (i : grid0.Coords) (c0_i32_306 : BitVec 32) : Fin 2 → Nat :=
  let arg0 : BitVec 32 := BitVec.ofNat 32 (i 0).val
  let c4_i32_305 : BitVec 32 := 4#32
  let v735 : BitVec 32 := Scalar.muli arg0 c4_i32_305
  let v736 : BitVec 32 := Scalar.addi v735 c0_i32_306
  let v737 : Index := Scalar.indexCast v736
  let c18_307 : Index := 18#32
  ![v737.toNat, 18]
def k0_off20 (i : grid0.Coords) (c0_i32_320 : BitVec 32) : Fin 2 → Nat :=
  let arg0 : BitVec 32 := BitVec.ofNat 32 (i 0).val
  let c4_i32_319 : BitVec 32 := 4#32
  let v773 : BitVec 32 := Scalar.muli arg0 c4_i32_319
  let v774 : BitVec 32 := Scalar.addi v773 c0_i32_320
  let v775 : Index := Scalar.indexCast v774
  let c19_321 : Index := 19#32
  ![v775.toNat, 19]
def k0_off21 (i : grid0.Coords) (c0_i32_339 : BitVec 32) : Fin 2 → Nat :=
  let arg0 : BitVec 32 := BitVec.ofNat 32 (i 0).val
  let c4_i32_338 : BitVec 32 := 4#32
  let v815 : BitVec 32 := Scalar.muli arg0 c4_i32_338
  let v816 : BitVec 32 := Scalar.addi v815 c0_i32_339
  let v817 : Index := Scalar.indexCast v816
  let c20_340 : Index := 20#32
  ![v817.toNat, 20]
def k0_off22 (i : grid0.Coords) (c0_i32_353 : BitVec 32) : Fin 2 → Nat :=
  let arg0 : BitVec 32 := BitVec.ofNat 32 (i 0).val
  let c4_i32_352 : BitVec 32 := 4#32
  let v853 : BitVec 32 := Scalar.muli arg0 c4_i32_352
  let v854 : BitVec 32 := Scalar.addi v853 c0_i32_353
  let v855 : Index := Scalar.indexCast v854
  let c21_354 : Index := 21#32
  ![v855.toNat, 21]
def k0_off23 (i : grid0.Coords) (c0_i32_372 : BitVec 32) : Fin 2 → Nat :=
  let arg0 : BitVec 32 := BitVec.ofNat 32 (i 0).val
  let c4_i32_371 : BitVec 32 := 4#32
  let v895 : BitVec 32 := Scalar.muli arg0 c4_i32_371
  let v896 : BitVec 32 := Scalar.addi v895 c0_i32_372
  let v897 : Index := Scalar.indexCast v896
  let c22_373 : Index := 22#32
  ![v897.toNat, 22]
def k0_off24 (i : grid0.Coords) (c0_i32_386 : BitVec 32) : Fin 2 → Nat :=
  let arg0 : BitVec 32 := BitVec.ofNat 32 (i 0).val
  let c4_i32_385 : BitVec 32 := 4#32
  let v933 : BitVec 32 := Scalar.muli arg0 c4_i32_385
  let v934 : BitVec 32 := Scalar.addi v933 c0_i32_386
  let v935 : Index := Scalar.indexCast v934
  let c23_387 : Index := 23#32
  ![v935.toNat, 23]
def k0_off25 (i : grid0.Coords) (c0_i32_405 : BitVec 32) : Fin 2 → Nat :=
  let arg0 : BitVec 32 := BitVec.ofNat 32 (i 0).val
  let c4_i32_404 : BitVec 32 := 4#32
  let v975 : BitVec 32 := Scalar.muli arg0 c4_i32_404
  let v976 : BitVec 32 := Scalar.addi v975 c0_i32_405
  let v977 : Index := Scalar.indexCast v976
  let c24_406 : Index := 24#32
  ![v977.toNat, 24]
def k0_off26 (i : grid0.Coords) (c0_i32_419 : BitVec 32) : Fin 2 → Nat :=
  let arg0 : BitVec 32 := BitVec.ofNat 32 (i 0).val
  let c4_i32_418 : BitVec 32 := 4#32
  let v1013 : BitVec 32 := Scalar.muli arg0 c4_i32_418
  let v1014 : BitVec 32 := Scalar.addi v1013 c0_i32_419
  let v1015 : Index := Scalar.indexCast v1014
  let c25_420 : Index := 25#32
  ![v1015.toNat, 25]
def k0_off27 (i : grid0.Coords) (c0_i32_438 : BitVec 32) : Fin 2 → Nat :=
  let arg0 : BitVec 32 := BitVec.ofNat 32 (i 0).val
  let c4_i32_437 : BitVec 32 := 4#32
  let v1055 : BitVec 32 := Scalar.muli arg0 c4_i32_437
  let v1056 : BitVec 32 := Scalar.addi v1055 c0_i32_438
  let v1057 : Index := Scalar.indexCast v1056
  let c26_439 : Index := 26#32
  ![v1057.toNat, 26]
def k0_off28 (i : grid0.Coords) (c0_i32_452 : BitVec 32) : Fin 2 → Nat :=
  let arg0 : BitVec 32 := BitVec.ofNat 32 (i 0).val
  let c4_i32_451 : BitVec 32 := 4#32
  let v1093 : BitVec 32 := Scalar.muli arg0 c4_i32_451
  let v1094 : BitVec 32 := Scalar.addi v1093 c0_i32_452
  let v1095 : Index := Scalar.indexCast v1094
  let c27_453 : Index := 27#32
  ![v1095.toNat, 27]
def k0_off29 (i : grid0.Coords) (c0_i32_471 : BitVec 32) : Fin 2 → Nat :=
  let arg0 : BitVec 32 := BitVec.ofNat 32 (i 0).val
  let c4_i32_470 : BitVec 32 := 4#32
  let v1135 : BitVec 32 := Scalar.muli arg0 c4_i32_470
  let v1136 : BitVec 32 := Scalar.addi v1135 c0_i32_471
  let v1137 : Index := Scalar.indexCast v1136
  let c28_472 : Index := 28#32
  ![v1137.toNat, 28]
def k0_off30 (i : grid0.Coords) (c0_i32_485 : BitVec 32) : Fin 2 → Nat :=
  let arg0 : BitVec 32 := BitVec.ofNat 32 (i 0).val
  let c4_i32_484 : BitVec 32 := 4#32
  let v1173 : BitVec 32 := Scalar.muli arg0 c4_i32_484
  let v1174 : BitVec 32 := Scalar.addi v1173 c0_i32_485
  let v1175 : Index := Scalar.indexCast v1174
  let c29_486 : Index := 29#32
  ![v1175.toNat, 29]
def k0_off31 (i : grid0.Coords) (c0_i32_504 : BitVec 32) : Fin 2 → Nat :=
  let arg0 : BitVec 32 := BitVec.ofNat 32 (i 0).val
  let c4_i32_503 : BitVec 32 := 4#32
  let v1215 : BitVec 32 := Scalar.muli arg0 c4_i32_503
  let v1216 : BitVec 32 := Scalar.addi v1215 c0_i32_504
  let v1217 : Index := Scalar.indexCast v1216
  let c30_505 : Index := 30#32
  ![v1217.toNat, 30]
def k0_off32 (i : grid0.Coords) (c0_i32_518 : BitVec 32) : Fin 2 → Nat :=
  let arg0 : BitVec 32 := BitVec.ofNat 32 (i 0).val
  let c4_i32_517 : BitVec 32 := 4#32
  let v1253 : BitVec 32 := Scalar.muli arg0 c4_i32_517
  let v1254 : BitVec 32 := Scalar.addi v1253 c0_i32_518
  let v1255 : Index := Scalar.indexCast v1254
  let c31_519 : Index := 31#32
  ![v1255.toNat, 31]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S24x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S24x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S24x1x4096 : Shape := ⟨3, ![24, 1, 4096]⟩
abbrev S16384x4096 : Shape := ⟨2, ![16384, 4096]⟩
abbrev S128x32 : Shape := ⟨2, ![128, 32]⟩
abbrev S24x32x128 : Shape := ⟨3, ![24, 32, 128]⟩
abbrev S_ : Shape := ⟨0, ![]⟩
abbrev S24x32 : Shape := ⟨2, ![24, 32]⟩
abbrev S24x32x1 : Shape := ⟨3, ![24, 32, 1]⟩
abbrev S24x4096 : Shape := ⟨2, ![24, 4096]⟩
abbrev S16384x32x128 : Shape := ⟨3, ![16384, 32, 128]⟩
abbrev S32x24x16384 : Shape := ⟨3, ![32, 24, 16384]⟩
abbrev S32x24 : Shape := ⟨2, ![32, 24]⟩
abbrev S32x24x1 : Shape := ⟨3, ![32, 24, 1]⟩
abbrev S128x128x32 : Shape := ⟨3, ![128, 128, 32]⟩
abbrev S16384x32 : Shape := ⟨2, ![16384, 32]⟩
abbrev S32x16384 : Shape := ⟨2, ![32, 16384]⟩
abbrev S32x1x16384 : Shape := ⟨3, ![32, 1, 16384]⟩
abbrev S24x16384 : Shape := ⟨2, ![24, 16384]⟩

abbrev nBuf : Space → Nat
  | .hbm => 66
  | .vmem => 5
  | .smem => 0
  | _ => 0

abbrev bufTy : (tb : Table) → Fin (tcTables nBuf tb) → BufTy
  | .hbm, ⟨0, _⟩ => ⟨S24x1x4096, .bf16⟩
  | .hbm, ⟨1, _⟩ => ⟨S16384x4096, .fp8e4m3⟩
  | .hbm, ⟨2, _⟩ => ⟨S128x32, .f32⟩
  | .hbm, ⟨3, _⟩ => ⟨S24x1x4096, .f32⟩
  | .hbm, ⟨4, _⟩ => ⟨S24x32x128, .f32⟩
  | .hbm, ⟨5, _⟩ => ⟨S24x32x128, .f32⟩
  | .hbm, ⟨6, _⟩ => ⟨S_, .f32⟩
  | .hbm, ⟨7, _⟩ => ⟨S24x32, .f32⟩
  | .hbm, ⟨8, _⟩ => ⟨S_, .f32⟩
  | .hbm, ⟨9, _⟩ => ⟨S24x32, .f32⟩
  | .hbm, ⟨10, _⟩ => ⟨S24x32, .f32⟩
  | .hbm, ⟨11, _⟩ => ⟨S_, .f32⟩
  | .hbm, ⟨12, _⟩ => ⟨S24x32, .f32⟩
  | .hbm, ⟨13, _⟩ => ⟨S24x32, .i1⟩
  | .hbm, ⟨14, _⟩ => ⟨S24x32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S24x32, .f32⟩
  | .hbm, ⟨19, _⟩ => ⟨S24x32, .f32⟩
  | .hbm, ⟨20, _⟩ => ⟨S24x32, .f32⟩
  | .hbm, ⟨21, _⟩ => ⟨S_, .f32⟩
  | .hbm, ⟨22, _⟩ => ⟨S24x32, .f32⟩
  | .hbm, ⟨23, _⟩ => ⟨S24x32, .f32⟩
  | .hbm, ⟨24, _⟩ => ⟨S_, .f32⟩
  | .hbm, ⟨25, _⟩ => ⟨S_, .f32⟩
  | .hbm, ⟨26, _⟩ => ⟨S24x32, .f32⟩
  | .hbm, ⟨27, _⟩ => ⟨S24x32, .f32⟩
  | .hbm, ⟨28, _⟩ => ⟨S_, .f32⟩
  | .hbm, ⟨29, _⟩ => ⟨S24x32, .f32⟩
  | .hbm, ⟨30, _⟩ => ⟨S24x32, .f32⟩
  | .hbm, ⟨31, _⟩ => ⟨S24x32, .f32⟩
  | .hbm, ⟨32, _⟩ => ⟨S_, .f32⟩
  | .hbm, ⟨33, _⟩ => ⟨S24x32, .f32⟩
  | .hbm, ⟨34, _⟩ => ⟨S24x32, .f32⟩
  | .hbm, ⟨35, _⟩ => ⟨S24x32x1, .f32⟩
  | .hbm, ⟨36, _⟩ => ⟨S24x32x128, .f32⟩
  | .hbm, ⟨37, _⟩ => ⟨S24x32x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S24x32x128, .f32⟩
  | .hbm, ⟨42, _⟩ => ⟨S24x32x128, .f32⟩
  | .hbm, ⟨43, _⟩ => ⟨S_, .f32⟩
  | .hbm, ⟨44, _⟩ => ⟨S24x32x128, .f32⟩
  | .hbm, ⟨45, _⟩ => ⟨S24x32x128, .f32⟩
  | .hbm, ⟨46, _⟩ => ⟨S24x4096, .f32⟩
  | .hbm, ⟨47, _⟩ => ⟨S24x4096, .fp8e4m3⟩
  | .hbm, ⟨48, _⟩ => ⟨S24x4096, .f32⟩
  | .hbm, ⟨49, _⟩ => ⟨S16384x4096, .f32⟩
  | .hbm, ⟨50, _⟩ => ⟨S24x32x128, .f32⟩
  | .hbm, ⟨51, _⟩ => ⟨S16384x32x128, .f32⟩
  | .hbm, ⟨52, _⟩ => ⟨S32x24x16384, .f32⟩
  | .hbm, ⟨53, _⟩ => ⟨S32x24, .f32⟩
  | .hbm, ⟨54, _⟩ => ⟨S32x24x1, .f32⟩
  | .hbm, ⟨55, _⟩ => ⟨S128x128x32, .f32⟩
  | .hbm, ⟨56, _⟩ => ⟨S16384x32, .f32⟩
  | .hbm, ⟨57, _⟩ => ⟨S32x16384, .f32⟩
  | .hbm, ⟨58, _⟩ => ⟨S32x1x16384, .f32⟩
  | .hbm, ⟨59, _⟩ => ⟨S32x24x16384, .f32⟩
  | .hbm, ⟨60, _⟩ => ⟨S32x24x16384, .f32⟩
  | .hbm, ⟨61, _⟩ => ⟨S32x24x16384, .f32⟩
  | .hbm, ⟨62, _⟩ => ⟨S32x24x16384, .f32⟩
  | .hbm, ⟨63, _⟩ => ⟨S_, .f32⟩
  | .hbm, ⟨64, _⟩ => ⟨S24x16384, .f32⟩
  | .hbm, ⟨65, _⟩ => ⟨S24x16384, .bf16⟩
  | .local _ .vmem, ⟨0, _⟩ => ⟨S24x4096, .f32⟩
  | .local _ .vmem, ⟨1, _⟩ => ⟨S16384x4096, .fp8e4m3⟩
  | .local _ .vmem, ⟨2, _⟩ => ⟨S24x4096, .fp8e4m3⟩
  | .local _ .vmem, ⟨3, _⟩ => ⟨S24x4096, .f32⟩
  | .local _ .vmem, ⟨4, _⟩ => ⟨S16384x4096, .f32⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Split.lean ====
/- The kernel's body in two parts: the quantiser, run at the grid's first point only, and the block of products, run at
   every point. -/
module

public import proofs.«01_k».proof.Proof.Gen.KernelIdeal.Launch
public import proofs.«01_k».proof.Proof.Gen.KernelIdeal.Skeleton
public import Idealize.ShloMosaic.Lib.Tactic

@[expose] public section

noncomputable section

namespace Cert.KernelIdeal.Gen

open Idealize.ShloMosaic Idealize.ShloMosaic.TcCoe Idealize.ShloMosaic.Tactic
open Idealize.SL Idealize.SL.Sem

variable {F : FTy → Type} [FloatOps F]

/-- Three programs run one after another on what a first one returns. -/
theorem bind_assoc₃ {E : Type → Type} {α β γ δ : Type} (p : Prog E α) (f : α → Prog E β) (g : β → Prog E γ) (h : γ → Prog E δ) :
    ((p >>= f) >>= g) >>= h = p >>= fun a => (f a >>= g) >>= h := by
  rw [Prog.bind_assoc p f g]
  exact Prog.bind_assoc p (fun a => f a >>= g) h

/-- The body's conditional branch: the quantiser's last part, then the last group's scale and the row of scales stored. -/
def quantProg (i : grid0.Coords) (arg1 : Memref sig .tc .vmem S24x4096 .bf16) (harg1 : arg1.IsWhole) (arg2 : Memref sig .tc .vmem S512x4096 .fp8e4m3) (harg2 : arg2.IsWhole) (arg3 : Memref sig .tc .smem S128x32 .f32) (harg3 : arg3.IsWhole) (arg4 : Memref sig .tc .vmem S24x512 .bf16) (harg4 : arg4.IsWhole) (arg5 : Memref sig .tc .vmem S24x4096 .fp8e4m3) (harg5 : arg5.IsWhole) (arg6 : Memref sig .tc .vmem S24x32 .f32) (harg6 : arg6.IsWhole) (arg7 : Memref sig .tc .vmem S16x64x256 .fp8e4m3) (harg7 : arg7.IsWhole) (arg8 : Memref sig .tc .vmem S32x24x128 .f32) (harg8 : arg8.IsWhole) :
    Prog (TpuEff nD τ sig (Elt F) Λ₀ .tc) PUnit := do
  let ⟨v1295, v3251, v3283, v3306⟩ : Σ' (v1295 : IVec S24x32 32) (v3251 : FVec F S24x32 .f32) (v3283 : FVec F S24x1 .f32), FVec F S24x128 .f32 ← k0_part52 i arg1 harg1 arg2 harg2 arg3 harg3 arg4 harg4 arg5 harg5 arg6 harg6 arg7 harg7 arg8 harg8
  let v3307 : Vec F S1x24x128 .f32 ← Prog.lift (.load arg8 (Rect.unit (s := S32x24x128) ![31, 0, 0] S1x24x128.size inb_S32x24x128_S1x24x128_31_0_0).toLoadRect (View.loadsAt_vmem h_S1x24x128))
  Prog.lift (.store arg8 (Rect.unit (s := S32x24x128) ![31, 0, 0] S1x24x128.size inb_S32x24x128_S1x24x128_31_0_0) (k0_pay336 v3306) Finset.univ (View.stores_vmem_bits_univ h_S1x24x128 rfl) (.inl rfl))
  let v3315 : Vec F S24x32 .f32 ← Prog.lift (.load arg6 (Rect.unit (s := S24x32) ![0, 0] S24x32.size inb_S24x32_S24x32_0_0).toLoadRect (View.loadsAt_vmem h_S24x32))
  Prog.lift (.store arg6 (Rect.unit (s := S24x32) ![0, 0] S24x32.size inb_S24x32_S24x32_0_0) (k0_pay337 v1295 v3251 v3283) Finset.univ (View.stores_vmem_bits_univ h_S24x32 rfl) (.inl rfl))

/-- Where the condition fails, the body is a program that does not depend on it: the block of products. -/
def blockProg' (i : grid0.Coords) (arg1 : Memref sig .tc .vmem S24x4096 .bf16) (harg1 : arg1.IsWhole) (arg2 : Memref sig .tc .vmem S512x4096 .fp8e4m3) (harg2 : arg2.IsWhole) (arg3 : Memref sig .tc .smem S128x32 .f32) (harg3 : arg3.IsWhole) (arg4 : Memref sig .tc .vmem S24x512 .bf16) (harg4 : arg4.IsWhole) (arg5 : Memref sig .tc .vmem S24x4096 .fp8e4m3) (harg5 : arg5.IsWhole) (arg6 : Memref sig .tc .vmem S24x32 .f32) (harg6 : arg6.IsWhole) (arg7 : Memref sig .tc .vmem S16x64x256 .fp8e4m3) (harg7 : arg7.IsWhole) (arg8 : Memref sig .tc .vmem S32x24x128 .f32) (harg8 : arg8.IsWhole) :
    { p : Prog (TpuEff nD τ sig (Elt F) Λ₀ .tc) PUnit // ¬k0_cond1 i = 1#1 → cc0__body i arg1 harg1 arg2 harg2 arg3 harg3 arg4 harg4 arg5 harg5 arg6 harg6 arg7 harg7 arg8 harg8 = p } := by
  refine ⟨?_, fun hc => ?eq⟩
  case eq =>
    rewrite [cc0__body_eq_skeleton]; unfold cc0__body_skel
    rewrite [k0_part84_eq_skeleton]; unfold k0_part84_skel
    rewrite [k0_part53_eq_skeleton]; unfold k0_part53_skel
    rewrite [dif_neg hc]
    exact rfl

/-- The block of products: what the body runs at every point. -/
def blockProg (i : grid0.Coords) (arg1 : Memref sig .tc .vmem S24x4096 .bf16) (harg1 : arg1.IsWhole) (arg2 : Memref sig .tc .vmem S512x4096 .fp8e4m3) (harg2 : arg2.IsWhole) (arg3 : Memref sig .tc .smem S128x32 .f32) (harg3 : arg3.IsWhole) (arg4 : Memref sig .tc .vmem S24x512 .bf16) (harg4 : arg4.IsWhole) (arg5 : Memref sig .tc .vmem S24x4096 .fp8e4m3) (harg5 : arg5.IsWhole) (arg6 : Memref sig .tc .vmem S24x32 .f32) (harg6 : arg6.IsWhole) (arg7 : Memref sig .tc .vmem S16x64x256 .fp8e4m3) (harg7 : arg7.IsWhole) (arg8 : Memref sig .tc .vmem S32x24x128 .f32) (harg8 : arg8.IsWhole) :
    Prog (TpuEff nD τ sig (Elt F) Λ₀ .tc) PUnit := (blockProg' i arg1 harg1 arg2 harg2 arg3 harg3 arg4 harg4 arg5 harg5 arg6 harg6 arg7 harg7 arg8 harg8).1

/-- Past the first point the body is the block of products. -/
theorem body_neg (i : grid0.Coords) (arg1 : Memref sig .tc .vmem S24x4096 .bf16) (harg1 : arg1.IsWhole) (arg2 : Memref sig .tc .vmem S512x4096 .fp8e4m3) (harg2 : arg2.IsWhole) (arg3 : Memref sig .tc .smem S128x32 .f32) (harg3 : arg3.IsWhole) (arg4 : Memref sig .tc .vmem S24x512 .bf16) (harg4 : arg4.IsWhole) (arg5 : Memref sig .tc .vmem S24x4096 .fp8e4m3) (harg5 : arg5.IsWhole) (arg6 : Memref sig .tc .vmem S24x32 .f32) (harg6 : arg6.IsWhole) (arg7 : Memref sig .tc .vmem S16x64x256 .fp8e4m3) (harg7 : arg7.IsWhole) (arg8 : Memref sig .tc .vmem S32x24x128 .f32) (harg8 : arg8.IsWhole) (hc : ¬k0_cond1 i = 1#1) :
    cc0__body (F := F) i arg1 harg1 arg2 harg2 arg3 harg3 arg4 harg4 arg5 harg5 arg6 harg6 arg7 harg7 arg8 harg8 = blockProg i arg1 harg1 arg2 harg2 arg3 harg3 arg4 harg4 arg5 harg5 arg6 harg6 arg7 harg7 arg8 harg8 := (blockProg' i arg1 harg1 arg2 harg2 arg3 harg3 arg4 harg4 arg5 harg5 arg6 harg6 arg7 harg7 arg8 harg8).2 hc

/-- At the first point the body is the quantiser, then the block of products. -/
theorem body_pos (i : grid0.Coords) (arg1 : Memref sig .tc .vmem S24x4096 .bf16) (harg1 : arg1.IsWhole) (arg2 : Memref sig .tc .vmem S512x4096 .fp8e4m3) (harg2 : arg2.IsWhole) (arg3 : Memref sig .tc .smem S128x32 .f32) (harg3 : arg3.IsWhole) (arg4 : Memref sig .tc .vmem S24x512 .bf16) (harg4 : arg4.IsWhole) (arg5 : Memref sig .tc .vmem S24x4096 .fp8e4m3) (harg5 : arg5.IsWhole) (arg6 : Memref sig .tc .vmem S24x32 .f32) (harg6 : arg6.IsWhole) (arg7 : Memref sig .tc .vmem S16x64x256 .fp8e4m3) (harg7 : arg7.IsWhole) (arg8 : Memref sig .tc .vmem S32x24x128 .f32) (harg8 : arg8.IsWhole) (hc : k0_cond1 i = 1#1) :
    cc0__body (F := F) i arg1 harg1 arg2 harg2 arg3 harg3 arg4 harg4 arg5 harg5 arg6 harg6 arg7 harg7 arg8 harg8 = quantProg i arg1 harg1 arg2 harg2 arg3 harg3 arg4 harg4 arg5 harg5 arg6 harg6 arg7 harg7 arg8 harg8 >>= fun _ => blockProg i arg1 harg1 arg2 harg2 arg3 harg3 arg4 harg4 arg5 harg5 arg6 harg6 arg7 harg7 arg8 harg8 := by
  rw [cc0__body_eq_skeleton]; unfold cc0__body_skel
  rw [k0_part84_eq_skeleton]; unfold k0_part84_skel
  rw [k0_part53_eq_skeleton]; unfold k0_part53_skel
  rw [dif_pos hc]
  unfold quantProg
  refine (bind_assoc₃ _ _ _ _).trans (Eq.trans ?_ (Prog.bind_assoc _ _ _).symm)
  refine congrArg _ (funext fun a => ?_)
  obtain ⟨v1295, v3251, v3283, v3306⟩ := a
  refine congrArg (Prog.op _) (funext fun _ => ?_)
  refine congrArg (Prog.op _) (funext fun _ => ?_)
  refine congrArg (Prog.op _) (funext fun _ => ?_)
  refine congrArg (Prog.op _) (funext fun _ => ?_)
  rfl

end Cert.KernelIdeal.Gen

end
-- ==== Proof.QuantRun.lean ====
/- The quantiser's run: what its stores leave in the buffers of codes, scales, dot operands and broadcast scales. -/
module

public import proofs.«01_k».proof.Proof.Split
public import Idealize.ShloMosaic.Lib.Pipeline.FrameBody
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the quantiser's stores leave in the codes' buffer (`L4`), the scales' (`L5`), the dot operands' (`LS0`) and the
    broadcast scales' (`LS1`), as pieces, last first, from the activations `x0`; with the proof that on whole buffers, the
    activations' at `x0` and those four at anything, it runs to a continuation holding them so. The pieces are the run's. -/
def quantRun (c : Dev nD) (i : grid0.Coords) (arg1 : Memref sig .tc .vmem S24x4096 .bf16) (harg1 : arg1.IsWhole) (arg2 : Memref sig .tc .vmem S512x4096 .fp8e4m3) (harg2 : arg2.IsWhole) (arg3 : Memref sig .tc .smem S128x32 .f32) (harg3 : arg3.IsWhole) (arg4 : Memref sig .tc .vmem S24x512 .bf16) (harg4 : arg4.IsWhole) (arg5 : Memref sig .tc .vmem S24x4096 .fp8e4m3) (harg5 : arg5.IsWhole) (arg6 : Memref sig .tc .vmem S24x32 .f32) (harg6 : arg6.IsWhole) (arg7 : Memref sig .tc .vmem S16x64x256 .fp8e4m3) (harg7 : arg7.IsWhole) (arg8 : Memref sig .tc .vmem S32x24x128 .f32) (harg8 : arg8.IsWhole)
    (x0 : Vec F S24x4096 .bf16) :
    Σ' (L4 : List (View.Piece (Elt F) S24x4096 .fp8e4m3)), Σ' (L5 : List (View.Piece (Elt F) S24x32 .f32)), Σ' (LS0 : List (View.Piece (Elt F) S16x64x256 .fp8e4m3)), { LS1 : List (View.Piece (Elt F) S32x24x128 .f32) //
      ∀ (E : Set ℕ) (K : PUnit → sProp 𝕄),
        iprop(owns (c : Thread nD τ) arg1 fullShare x0 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (quantProg i arg1 harg1 arg2 harg2 arg3 harg3 arg4 harg4 arg5 harg5 arg6 harg6 arg7 harg7 arg8 harg8) K } := by
  refine ⟨?_, ?_, ?_, ?_, fun E K => ?run⟩
  case run =>
    unfold quantProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    unfold owns
    iintro ⟨⟨%f0, %hf0, H0⟩, ⟨%d4, %f4, -, H4⟩, ⟨%d5, %f5, -, H5⟩, ⟨%ds0, %fs0, -, HS0⟩, ⟨%ds1, %fs1, -, HS1⟩, Hk⟩
    obtain rfl := harg1.eq_unread hf0
    sl_exec
    sl_step
    iapply Hk
    isplitl [H0]
    · iexists _; isplitr; · ipureintro; exact harg1.read_unread _
      iexact H0
    isplitl [H4]; · iexists _; iexact H4
    isplitl [H5]; · iexists _; iexact H5
    isplitl [HS0]; · iexists _; iexact HS0
    iexists _; iexact HS1

end Cert.KernelIdeal.Gen

end
-- ==== Proof.Quant.lean ====
/- What the quantiser leaves, as functions of the activations: the codes, the row of scales, the dot operands and the
   broadcast scales, each group's part by one formula. -/
module

public import proofs.«01_k».proof.Proof.QuantRun
public import Idealize.ShloMosaic.Lib.Pipeline.FrameBody
public import Idealize.ShloMosaic.Lib.Tactic
public import Idealize.ShloMosaic.Lib.Pipeline.Value
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-! ## The groups -/

/-- Group `g`'s columns of the activations and of the codes. -/
abbrev colRect (g : Fin 32) : Rect S24x4096 := Rect.unit ![0, 128 * g.val] ![24, 128] (by
  intro a; have := g.isLt; fin_cases a <;> simp [S24x4096] <;> omega)

/-- Group `g` of the activations. -/
def grp (x : Vec F S24x4096 .bf16) (g : Fin 32) : Vec F S24x128 .bf16 := View.ld x (colRect g)

/-- A group's codes. -/
def codeOf (v : Vec F S24x128 .bf16) : FVec F S24x128 .fp8e4m3 := k0_pay11 (k0_pay4 v) (k0_pay7 v)
/-- A group's codes, padded with zero rows to 32: the half of a dot operand that holds them. -/
def opOf (v : Vec F S24x128 .bf16) : FVec F S1x32x128 .fp8e4m3 := k0_pay9 k0_pay3 (k0_pay4 v) (k0_pay7 v)
/-- The half of a dot operand that holds zeros. -/
def noOp : FVec F S1x32x128 .fp8e4m3 := k0_pay10 k0_pay2
/-- A group's scales, each row's repeated along the lanes. -/
def actOf (v : Vec F S24x128 .bf16) : FVec F S1x24x128 .f32 := k0_pay12 (k0_pay6 v)
/-- The row of scales with lane `g` set to a group's scales. -/
def setLane (g : Fin 32) (prev : FVec F S24x32 .f32) (v : Vec F S24x128 .bf16) : FVec F S24x32 .f32 :=
  select (cmpi .eq (iota .tc S24x32 32 [1] iota_S24x32_d1_w32) (broadcast S24x32 (BitVec.ofNat 32 g.val)))
    (broadcastTo S24x32 (shapeCast S24x1 (k0_pay6 v) shapeCasts_S24x1_S24x1) broadcasts_S24x1_S24x32) prev

/-- The groups, last first. -/
def groups : List (Fin 32) := [31, 30, 29, 28, 27, 26, 25, 24, 23, 22, 21, 20, 19, 18, 17, 16, 15, 14, 13, 12, 11, 10, 9, 8, 7, 6, 5, 4, 3, 2, 1, 0]
/-- Every group is in the list. -/
theorem mem_groups (g : Fin 32) : g ∈ groups := by revert g; decide

/-! ## The buffers' contents -/

/-- The codes. -/
def codesV (x : Vec F S24x4096 .bf16) : Vec F S24x4096 .fp8e4m3 := fun y =>
  codeOf (grp x ⟨(y 1).val / 128, by have := idx2_lt1 y; omega⟩) (ix2 (y 0) ⟨(y 1).val % 128, Nat.mod_lt _ (by decide)⟩)
/-- The dot operands: pair `j`'s has group `2j` in its upper left quarter, group `2j+1` in its lower right one and zeros elsewhere. -/
def opsV (x : Vec F S24x4096 .bf16) : Vec F S16x64x256 .fp8e4m3 := fun y =>
  if (y 1).val / 32 = (y 2).val / 128 then
    opOf (grp x ⟨2 * (y 0).val + (y 1).val / 32, by
      have h0 : (y 0).val < 16 := (y 0).isLt
      have h1 : (y 1).val < 64 := (y 1).isLt
      omega⟩) (ix3 0 ⟨(y 1).val % 32, Nat.mod_lt _ (by decide)⟩ ⟨(y 2).val % 128, Nat.mod_lt _ (by decide)⟩)
  else noOp (ix3 0 ⟨(y 1).val % 32, Nat.mod_lt _ (by decide)⟩ ⟨(y 2).val % 128, Nat.mod_lt _ (by decide)⟩)
/-- The broadcast scales. -/
def actV (x : Vec F S24x4096 .bf16) : Vec F S32x24x128 .f32 := fun y => actOf (grp x (y 0)) (ix3 0 (y 1) (y 2))
/-- The row of scales. -/
def scalesV (x : Vec F S24x4096 .bf16) : Vec F S24x32 .f32 :=
  groups.foldr (fun g prev => setLane g prev (grp x g)) k0_pay1

/-! ## The pieces -/

/-- Writes of blocks of one function that cover the buffer leave that function. -/
theorem read_writes_of_pieces {sig : RefSig} {κ : Kind} {sp : Space} {s : Shape} {e : EltTy} {Val : EltTy → Type} [∀ e, Nonempty (Val e)]
    (v : View sig κ sp s e) (f : v.ty.Contents Val) (L : List (View.Piece Val s e)) (G : s.Idx → Val e)
    (h : ∀ p ∈ L, ∀ x : p.1.shape.Idx, p.2 x = G (p.1.emb x)) (hc : ∀ y, ∃ p ∈ L, y ∈ p.1.set) :
    v.read Val (v.writes Val f L) = G := by
  rw [View.read_writes_eq_canon v f L hc]
  exact funext fun y => View.canon_apply_of_pieces G L h y (hc y)

/-- Pair `j`'s quarter of the dot operands in rows `32·r` and columns `128·h`. -/
abbrev opRect (j : Fin 16) (r h : Fin 2) : Rect S16x64x256 := Rect.unit ![j.val, 32 * r.val, 128 * h.val] ![1, 32, 128] (by
  intro a; have := j.isLt; have := r.isLt; have := h.isLt; fin_cases a <;> simp [S16x64x256] <;> omega)
/-- Group `g`'s slab of the broadcast scales. -/
abbrev actRect (g : Fin 32) : Rect S32x24x128 := Rect.unit ![g.val, 0, 0] ![1, 24, 128] (by
  intro a; have := g.isLt; fin_cases a <;> simp [S32x24x128] <;> omega)

/-- A group's half of its pair. -/
def half (g : Fin 32) : Fin 2 := ⟨g.val % 2, Nat.mod_lt _ (by decide)⟩
/-- The other half. -/
def half' (g : Fin 32) : Fin 2 := ⟨1 - g.val % 2, by omega⟩
/-- A group's pair. -/
def pair (g : Fin 32) : Fin 16 := ⟨g.val / 2, by have := g.isLt; omega⟩

variable (c : Dev nD) (c : Dev nD) (i : grid0.Coords) (arg1 : Memref sig .tc .vmem S24x4096 .bf16) (harg1 : arg1.IsWhole) (arg2 : Memref sig .tc .vmem S512x4096 .fp8e4m3) (harg2 : arg2.IsWhole) (arg3 : Memref sig .tc .smem S128x32 .f32) (harg3 : arg3.IsWhole) (arg4 : Memref sig .tc .vmem S24x512 .bf16) (harg4 : arg4.IsWhole) (arg5 : Memref sig .tc .vmem S24x4096 .fp8e4m3) (harg5 : arg5.IsWhole) (arg6 : Memref sig .tc .vmem S24x32 .f32) (harg6 : arg6.IsWhole) (arg7 : Memref sig .tc .vmem S16x64x256 .fp8e4m3) (harg7 : arg7.IsWhole) (arg8 : Memref sig .tc .vmem S32x24x128 .f32) (harg8 : arg8.IsWhole) (x0 : Vec F S24x4096 .bf16)

/-- The run's stores of codes. -/
theorem quantRun_codes : (quantRun c i arg1 harg1 arg2 harg2 arg3 harg3 arg4 harg4 arg5 harg5 arg6 harg6 arg7 harg7 arg8 harg8 x0).1
    = groups.map fun g => ⟨colRect g, codeOf (grp (arg1.view.read (Elt F) (harg1.unread x0)) g)⟩ := rfl

/-- The run's stores of broadcast scales. -/
theorem quantRun_acts : (quantRun c i arg1 harg1 arg2 harg2 arg3 harg3 arg4 harg4 arg5 harg5 arg6 harg6 arg7 harg7 arg8 harg8 x0).2.2.2.1
    = groups.map fun g => ⟨actRect g, actOf (grp (arg1.view.read (Elt F) (harg1.unread x0)) g)⟩ := rfl

/-- The run's stores of dot operands. -/
theorem quantRun_ops : (quantRun c i arg1 harg1 arg2 harg2 arg3 harg3 arg4 harg4 arg5 harg5 arg6 harg6 arg7 harg7 arg8 harg8 x0).2.2.1
    = groups.flatMap fun g => [⟨opRect (pair g) (half g) (half' g), noOp⟩, ⟨opRect (pair g) (half g) (half g), opOf (grp (arg1.view.read (Elt F) (harg1.unread x0)) g)⟩] := rfl

/-- The run's store of scales. -/
theorem quantRun_scales : (quantRun c i arg1 harg1 arg2 harg2 arg3 harg3 arg4 harg4 arg5 harg5 arg6 harg6 arg7 harg7 arg8 harg8 x0).2.1
    = [⟨Rect.unit ![0, 0] ![24, 32] inb_S24x32_S24x32_0_0, scalesV (arg1.view.read (Elt F) (harg1.unread x0))⟩] := rfl

/-- A coordinate of a rectangle's element. -/
theorem emb_val {s : Shape} (r : Rect s) (x : r.shape.Idx) (a : Fin s.rank) : (r.emb x a).val = r.off a + r.stride a * (x a).val := rfl

/-- What the quantiser leaves in the codes' buffer reads as the codes. -/
theorem read_codes (v : View sig .tc .vmem S24x4096 .fp8e4m3) (f : v.ty.Contents (Elt F)) :
    v.read (Elt F) (v.writes (Elt F) f (quantRun c i arg1 harg1 arg2 harg2 arg3 harg3 arg4 harg4 arg5 harg5 arg6 harg6 arg7 harg7 arg8 harg8 x0).1) = codesV x0 := by
  rw [quantRun_codes, harg1.read_unread]
  refine read_writes_of_pieces v f _ _ ?_ ?_
  · simp only [List.forall_mem_map]
    intro g _ x
    have h1 : ((colRect g).emb x 1).val = 128 * g.val + 1 * (x 1).val := rfl
    have hx : (x 1).val < 128 := (x 1).isLt
    unfold codesV
    congr 1
    · congr 2; exact Fin.ext (by show g.val = ((colRect g).emb x 1).val / 128; omega)
    · funext a
      match a with
      | ⟨0, _⟩ => exact Fin.ext (by show (x 0).val = 0 + 1 * (x 0).val; omega)
      | ⟨1, _⟩ => exact Fin.ext (by show (x 1).val = ((colRect g).emb x 1).val % 128; omega)
  · intro y
    have h1 := idx2_lt1 y
    refine ⟨_, List.mem_map.mpr ⟨⟨(y 1).val / 128, by omega⟩, mem_groups _, rfl⟩, ?_⟩
    show y ∈ (colRect ⟨(y 1).val / 128, by omega⟩).set
    refine Rect.mem_set_unit.mpr fun a => ?_
    match a with
    | ⟨0, _⟩ => exact ⟨Nat.zero_le _, by have := idx2_lt0 y; show (y 0).val < 0 + 24; omega⟩
    | ⟨1, _⟩ => exact ⟨by show 128 * ((y 1).val / 128) ≤ (y 1).val; omega, by show (y 1).val < 128 * ((y 1).val / 128) + 128; omega⟩

/-- What it leaves in the broadcast scales' buffer reads as the broadcast scales. -/
theorem read_acts (v : View sig .tc .vmem S32x24x128 .f32) (f : v.ty.Contents (Elt F)) :
    v.read (Elt F) (v.writes (Elt F) f (quantRun c i arg1 harg1 arg2 harg2 arg3 harg3 arg4 harg4 arg5 harg5 arg6 harg6 arg7 harg7 arg8 harg8 x0).2.2.2.1) = actV x0 := by
  rw [quantRun_acts, harg1.read_unread]
  refine read_writes_of_pieces v f _ _ ?_ ?_
  · simp only [List.forall_mem_map]
    intro g _ x
    have hx : (x 0).val < 1 := (x 0).isLt
    unfold actV
    congr 1
    · congr 2; exact Fin.ext (by show g.val = g.val + 1 * (x 0).val; omega)
    · funext a
      match a with
      | ⟨0, _⟩ => exact Fin.ext (by show (x 0).val = 0; omega)
      | ⟨1, _⟩ => exact Fin.ext (by show (x 1).val = 0 + 1 * (x 1).val; omega)
      | ⟨2, _⟩ => exact Fin.ext (by show (x 2).val = 0 + 1 * (x 2).val; omega)
  · intro y
    refine ⟨_, List.mem_map.mpr ⟨y 0, mem_groups _, rfl⟩, ?_⟩
    show y ∈ (actRect (y 0)).set
    refine Rect.mem_set_unit.mpr fun a => ?_
    match a with
    | ⟨0, _⟩ => exact ⟨le_refl _, by show (y 0).val < (y 0).val + 1; omega⟩
    | ⟨1, _⟩ => exact ⟨Nat.zero_le _, by have : (y 1).val < 24 := (y 1).isLt; show (y 1).val < 0 + 24; omega⟩
    | ⟨2, _⟩ => exact ⟨Nat.zero_le _, by have : (y 2).val < 128 := (y 2).isLt; show (y 2).val < 0 + 128; omega⟩

/-- What it leaves in the dot operands' buffer reads as the dot operands. -/
theorem read_ops (v : View sig .tc .vmem S16x64x256 .fp8e4m3) (f : v.ty.Contents (Elt F)) :
    v.read (Elt F) (v.writes (Elt F) f (quantRun c i arg1 harg1 arg2 harg2 arg3 harg3 arg4 harg4 arg5 harg5 arg6 harg6 arg7 harg7 arg8 harg8 x0).2.2.1) = opsV x0 := by
  rw [quantRun_ops, harg1.read_unread]
  refine read_writes_of_pieces v f _ _ ?_ ?_
  · simp only [List.forall_mem_flatMap, List.forall_mem_cons, List.not_mem_nil, false_imp_iff, implies_true, and_true]
    intro g _
    have hg := g.isLt
    have hh : (half g).val = g.val % 2 := rfl
    have hh' : (half' g).val = 1 - g.val % 2 := rfl
    have hp : (pair g).val = g.val / 2 := rfl
    refine ⟨fun x => ?_, fun x => ?_⟩
    · have hx0 : (x 0).val < 1 := (x 0).isLt
      have hx1 : (x 1).val < 32 := (x 1).isLt
      have hx2 : (x 2).val < 128 := (x 2).isLt
      have e1 : ((opRect (pair g) (half g) (half' g)).emb x 1).val = 32 * (half g).val + 1 * (x 1).val := rfl
      have e2 : ((opRect (pair g) (half g) (half' g)).emb x 2).val = 128 * (half' g).val + 1 * (x 2).val := rfl
      unfold opsV
      rw [if_neg (by omega)]
      congr 1
      funext a
      match a with
      | ⟨0, _⟩ => exact Fin.ext (by show (x 0).val = 0; omega)
      | ⟨1, _⟩ => exact Fin.ext (by show (x 1).val = ((opRect (pair g) (half g) (half' g)).emb x 1).val % 32; omega)
      | ⟨2, _⟩ => exact Fin.ext (by show (x 2).val = ((opRect (pair g) (half g) (half' g)).emb x 2).val % 128; omega)
    · have hx0 : (x 0).val < 1 := (x 0).isLt
      have hx1 : (x 1).val < 32 := (x 1).isLt
      have hx2 : (x 2).val < 128 := (x 2).isLt
      have e0 : ((opRect (pair g) (half g) (half g)).emb x 0).val = (pair g).val + 1 * (x 0).val := rfl
      have e1 : ((opRect (pair g) (half g) (half g)).emb x 1).val = 32 * (half g).val + 1 * (x 1).val := rfl
      have e2 : ((opRect (pair g) (half g) (half g)).emb x 2).val = 128 * (half g).val + 1 * (x 2).val := rfl
      unfold opsV
      rw [if_pos (by omega)]
      congr 1
      · congr 2
        exact Fin.ext (by
          show g.val = 2 * ((opRect (pair g) (half g) (half g)).emb x 0).val + ((opRect (pair g) (half g) (half g)).emb x 1).val / 32
          omega)
      · funext a
        match a with
        | ⟨0, _⟩ => exact Fin.ext (by show (x 0).val = 0; omega)
        | ⟨1, _⟩ => exact Fin.ext (by show (x 1).val = ((opRect (pair g) (half g) (half g)).emb x 1).val % 32; omega)
        | ⟨2, _⟩ => exact Fin.ext (by show (x 2).val = ((opRect (pair g) (half g) (half g)).emb x 2).val % 128; omega)
  · intro y
    have h0 : (y 0).val < 16 := (y 0).isLt
    have h1 : (y 1).val < 64 := (y 1).isLt
    have h2 : (y 2).val < 256 := (y 2).isLt
    have hm : ∀ r h : Fin 2, r.val = (y 1).val / 32 → h.val = (y 2).val / 128 → ∀ j : Fin 16, j.val = (y 0).val → y ∈ (opRect j r h).set :=
      fun r h hr hh j hj => Rect.mem_set_unit.mpr fun a => by
        match a with
        | ⟨0, _⟩ => exact ⟨by show j.val ≤ (y 0).val; omega, by show (y 0).val < j.val + 1; omega⟩
        | ⟨1, _⟩ => exact ⟨by show 32 * r.val ≤ (y 1).val; omega, by show (y 1).val < 32 * r.val + 32; omega⟩
        | ⟨2, _⟩ => exact ⟨by show 128 * h.val ≤ (y 2).val; omega, by show (y 2).val < 128 * h.val + 128; omega⟩
    let g : Fin 32 := ⟨2 * (y 0).val + (y 1).val / 32, by omega⟩
    have hg : g.val = 2 * (y 0).val + (y 1).val / 32 := rfl
    have hh : (half g).val = g.val % 2 := rfl
    have hh' : (half' g).val = 1 - g.val % 2 := rfl
    have hp : (pair g).val = g.val / 2 := rfl
    by_cases hd : (y 1).val / 32 = (y 2).val / 128
    · exact ⟨_, List.mem_flatMap.mpr ⟨g, mem_groups _, List.mem_cons_of_mem _ (List.mem_singleton_self _)⟩,
        hm _ _ (by omega) (by omega) _ (by omega)⟩
    · exact ⟨_, List.mem_flatMap.mpr ⟨g, mem_groups _, List.mem_cons_self⟩, hm _ _ (by omega) (by omega) _ (by omega)⟩

/-- What it leaves in the scales' buffer reads as the row of scales. -/
theorem read_scales (v : View sig .tc .vmem S24x32 .f32) (f : v.ty.Contents (Elt F)) :
    v.read (Elt F) (v.writes (Elt F) f (quantRun c i arg1 harg1 arg2 harg2 arg3 harg3 arg4 harg4 arg5 harg5 arg6 harg6 arg7 harg7 arg8 harg8 x0).2.1) = scalesV x0 := by
  rw [quantRun_scales, harg1.read_unread]
  refine read_writes_of_pieces v f _ _ ?_ ?_
  · simp only [List.forall_mem_cons, List.not_mem_nil, false_imp_iff, implies_true, and_true]
    intro x
    congr 1
    funext a
    match a with
    | ⟨0, _⟩ => exact Fin.ext (by show (x 0).val = 0 + 1 * (x 0).val; omega)
    | ⟨1, _⟩ => exact Fin.ext (by show (x 1).val = 0 + 1 * (x 1).val; omega)
  · intro y
    refine ⟨_, List.mem_singleton_self _, ?_⟩
    show y ∈ (Rect.unit (s := S24x32) ![0, 0] ![24, 32] inb_S24x32_S24x32_0_0).set
    refine Rect.mem_set_unit.mpr fun a => ?_
    match a with
    | ⟨0, _⟩ => exact ⟨Nat.zero_le _, by have := idx2_lt0 y; show (y 0).val < 0 + 24; omega⟩
    | ⟨1, _⟩ => exact ⟨Nat.zero_le _, by have := idx2_lt1 y; show (y 1).val < 0 + 32; omega⟩

/-- The quantiser's triple: from whole buffers it leaves the codes, the row of scales, the dot operands and the broadcast
    scales of the activations. -/
theorem quant_wp (E : Set ℕ) (K : PUnit → sProp 𝕄) :
    iprop(owns (c : Thread nD τ) arg1 fullShare x0 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg5 fullShare (codesV x0) ∗ owns (c : Thread nD τ) arg6 fullShare (scalesV x0) ∗ owns (c : Thread nD τ) arg7 fullShare (opsV x0) ∗ owns (c : Thread nD τ) arg8 fullShare (actV x0)) -∗ K ⟨⟩))
      ⊢ wp frame (wpE (defs₀ (F := F)) Variants.none c none) E (quantProg i arg1 harg1 arg2 harg2 arg3 harg3 arg4 harg4 arg5 harg5 arg6 harg6 arg7 harg7 arg8 harg8) K := by
  refine BIBase.Entails.trans ?_ ((quantRun c i arg1 harg1 arg2 harg2 arg3 harg3 arg4 harg4 arg5 harg5 arg6 harg6 arg7 harg7 arg8 harg8 x0).2.2.2.2 E K)
  iintro ⟨H0, H4, H5, HS0, HS1, Hk⟩
  isplitl [H0]; · iexact H0
  isplitl [H4]; · iexact H4
  isplitl [H5]; · iexact H5
  isplitl [HS0]; · iexact HS0
  isplitl [HS1]; · iexact HS1
  iintro ⟨H0, ⟨%f4, H4⟩, ⟨%f5, H5⟩, ⟨%fs0, HS0⟩, ⟨%fs1, HS1⟩⟩
  iapply Hk
  unfold owns
  isplitl [H0]; · iexact H0
  isplitl [H4]
  · iexists _; isplitr; · ipureintro; exact read_codes c i arg1 harg1 arg2 harg2 arg3 harg3 arg4 harg4 arg5 harg5 arg6 harg6 arg7 harg7 arg8 harg8 x0 _ f4
    iexact H4
  isplitl [H5]
  · iexists _; isplitr; · ipureintro; exact read_scales c i arg1 harg1 arg2 harg2 arg3 harg3 arg4 harg4 arg5 harg5 arg6 harg6 arg7 harg7 arg8 harg8 x0 _ f5
    iexact H5
  isplitl [HS0]
  · iexists _; isplitr; · ipureintro; exact read_ops c i arg1 harg1 arg2 harg2 arg3 harg3 arg4 harg4 arg5 harg5 arg6 harg6 arg7 harg7 arg8 harg8 x0 _ fs0
    iexact HS0
  iexists _; isplitr; · ipureintro; exact read_acts c i arg1 harg1 arg2 harg2 arg3 harg3 arg4 harg4 arg5 harg5 arg6 harg6 arg7 harg7 arg8 harg8 x0 _ fs1
  iexact HS1

end Cert.KernelIdeal.Gen

end
-- ==== Proof.BlockRun.lean ====
/- The run of the block of products: what its stores leave in the block of results. -/
module

public import proofs.«01_k».proof.Proof.Split
public import Idealize.ShloMosaic.Lib.Pipeline.FrameBody
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the block of products leaves in the block of results, as pieces, last first, from the block of weights `x1`, the
    weights' scales `x2`, the dot operands `xs0` and the broadcast scales `xs1`; with the proof that on whole buffers, those
    four at these contents and the block of results at anything, it runs to a continuation holding them so. -/
def blockRun (c : Dev nD) (i : grid0.Coords) (arg1 : Memref sig .tc .vmem S24x4096 .bf16) (harg1 : arg1.IsWhole) (arg2 : Memref sig .tc .vmem S512x4096 .fp8e4m3) (harg2 : arg2.IsWhole) (arg3 : Memref sig .tc .smem S128x32 .f32) (harg3 : arg3.IsWhole) (arg4 : Memref sig .tc .vmem S24x512 .bf16) (harg4 : arg4.IsWhole) (arg5 : Memref sig .tc .vmem S24x4096 .fp8e4m3) (harg5 : arg5.IsWhole) (arg6 : Memref sig .tc .vmem S24x32 .f32) (harg6 : arg6.IsWhole) (arg7 : Memref sig .tc .vmem S16x64x256 .fp8e4m3) (harg7 : arg7.IsWhole) (arg8 : Memref sig .tc .vmem S32x24x128 .f32) (harg8 : arg8.IsWhole)
    (x1 : Vec F S512x4096 .fp8e4m3) (x2 : Vec F S128x32 .f32) (xs0 : Vec F S16x64x256 .fp8e4m3) (xs1 : Vec F S32x24x128 .f32) :
    { L3 : List (View.Piece (Elt F) S24x512 .bf16) //
      ∀ (E : Set ℕ) (K : PUnit → sProp 𝕄),
        iprop(owns (c : Thread nD τ) arg2 fullShare x1 ∗ owns (c : Thread nD τ) arg3 fullShare x2 ∗ (∃ d, owns (c : Thread nD τ) arg4 fullShare d) ∗ owns (c : Thread nD τ) arg7 fullShare xs0 ∗ owns (c : Thread nD τ) arg8 fullShare xs1
            ∗ (iprop(owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg7 fullShare xs0 ∗ owns (c : Thread nD τ) arg8 fullShare xs1) -∗ K ⟨⟩))
          ⊢ wp frame (wpE (defs₀ (F := F)) Variants.none c none) E (blockProg i arg1 harg1 arg2 harg2 arg3 harg3 arg4 harg4 arg5 harg5 arg6 harg6 arg7 harg7 arg8 harg8) K } := by
  refine ⟨?_, fun E K => ?run⟩
  case run =>
    unfold blockProg blockProg'
    simp only [k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf1; obtain rfl := harg3.eq_unread hf2; obtain rfl := harg7.eq_unread hfs0; obtain rfl := harg8.eq_unread hfs1
    sl_exec
    sl_step
    iapply Hk
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg7.read_unread _
      iexact HS0
    iexists _; isplitr; · ipureintro; exact harg8.read_unread _
    iexact HS1

end Cert.KernelIdeal.Gen

end
-- ==== Proof.Block.lean ====
/- What the block of products leaves in the block of results, as a function of what the point reads. -/
module

public import proofs.«01_k».proof.Proof.Quant
public import proofs.«01_k».proof.Proof.BlockRun
public import Idealize.ShloMosaic.Lib.WordCmp
public import Idealize.ShloMosaic.Lib.Pipeline.FrameBody
public import Idealize.ShloMosaic.Lib.Tactic
public import Idealize.ShloMosaic.Lib.Pipeline.Value
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-! ## What a step reads -/

/-- Pair `j`'s dot operand. -/
abbrev rowRect (j : Fin 16) : Rect S16x64x256 := Rect.unit ![j.val, 0, 0] ![1, 64, 256] (by
  intro a; have := j.isLt; fin_cases a <;> simp [S16x64x256] <;> omega)
/-- Pair `j`'s columns of the block of weights. -/
abbrev wRect (j : Fin 16) : Rect S512x4096 := Rect.unit ![0, 256 * j.val] ![512, 256] (by
  intro a; have := j.isLt; fin_cases a <;> simp [S512x4096] <;> omega)
/-- Where the scale of the point's `n`-th 128 weight rows in group `g` lies. -/
abbrev wsOff (i : grid0.Coords) (n : Fin 4) (g : Fin 32) : Fin 2 → ℕ :=
  ![(Scalar.indexCast (Scalar.addi (Scalar.muli (BitVec.ofNat 32 (i 0).val) 4#32) (BitVec.ofNat 32 n.val))).toNat, g.val]
/-- The row of the weight scales that a point and a part read. -/
theorem wsOff_zero (i : grid0.Coords) (n : Fin 4) (g : Fin 32) : wsOff i n g 0 = 4 * (i 0).val + n.val := by
  have hi : (i 0).val < 32 := (i 0).isLt
  have hn := n.isLt
  show (BitVec.ofNat 32 (i 0).val * 4#32 + BitVec.ofNat 32 n.val).toNat = _
  simp only [BitVec.toNat_add, BitVec.toNat_mul, BitVec.toNat_ofNat]
  omega
/-- The one entry of the weight scales that a point, a part and a group read. -/
abbrev wsRect (i : grid0.Coords) (n : Fin 4) (g : Fin 32) : Rect S128x32 := Rect.unit (wsOff i n g) ![1, 1] (by
  have hi : (i 0).val < 32 := (i 0).isLt
  intro a
  match a with
  | ⟨0, _⟩ => have := wsOff_zero i n g; show wsOff i n g 0 + 1 ≤ 128; omega
  | ⟨1, _⟩ => have := g.isLt; show g.val + 1 ≤ 32; omega)
/-- That scale. -/
def wsAt (x2 : Vec F S128x32 .f32) (i : grid0.Coords) (n : Fin 4) (g : Fin 32) : F .f32 :=
  View.ld x2 (wsRect i n g) (Shape.Idx.first (show 0 < (⟨2, ![1, 1]⟩ : Shape).numel by decide))
/-- A part's rows and columns lie inside the pair's product. -/
theorem slices_part (h : Fin 2) (n : Fin 4) : S64x512.Slices ![32 * h.val, 128 * n.val] S24x128 := by
  refine ⟨rfl, fun a => ?_⟩
  have := h.isLt; have := n.isLt
  match a with
  | ⟨0, _⟩ => show 32 * h.val + 24 ≤ 64; omega
  | ⟨1, _⟩ => show 128 * n.val + 128 ≤ 512; omega

/-! ## The block of results -/

/-- The sum's next term: group `g`'s products with the point's `n`-th 128 weight rows, scaled by the two scales. -/
def accStep (i : grid0.Coords) (x1 : Vec F S512x4096 .fp8e4m3) (x2 : Vec F S128x32 .f32) (xs0 : Vec F S16x64x256 .fp8e4m3) (xs1 : Vec F S32x24x128 .f32)
    (n : Fin 4) (g : Fin 32) (acc : FVec F S24x128 .f32) : FVec F S24x128 .f32 :=
  addf acc (mulf (mulf (extractStridedSlice S24x128 ![32 * (half g).val, 128 * n.val]
      (k0_pay340 (View.ld xs0 (rowRect (pair g))) (View.ld x1 (wRect (pair g)))) (slices_part (half g) n))
    (k0_pay341 (View.ld xs1 (actRect g)))) (broadcast S24x128 (wsAt x2 i n g)))
/-- The sum over the groups. -/
def accAll (i : grid0.Coords) (x1 : Vec F S512x4096 .fp8e4m3) (x2 : Vec F S128x32 .f32) (xs0 : Vec F S16x64x256 .fp8e4m3) (xs1 : Vec F S32x24x128 .f32)
    (n : Fin 4) : FVec F S24x128 .f32 := groups.foldr (accStep i x1 x2 xs0 xs1 n) k0_pay338
/-- The block of results. -/
def outV (i : grid0.Coords) (x1 : Vec F S512x4096 .fp8e4m3) (x2 : Vec F S128x32 .f32) (xs0 : Vec F S16x64x256 .fp8e4m3) (xs1 : Vec F S32x24x128 .f32) :
    Vec F S24x512 .bf16 := fun y =>
  k0_pay538 (accAll i x1 x2 xs0 xs1 ⟨(y 1).val / 128, by have := idx2_lt1 y; omega⟩) (ix2 (y 0) ⟨(y 1).val % 128, Nat.mod_lt _ (by decide)⟩)

/-- The block of results read at a place of its `n`-th 128 columns. -/
theorem outV_apply (i : grid0.Coords) (x1 : Vec F S512x4096 .fp8e4m3) (x2 : Vec F S128x32 .f32) (xs0 : Vec F S16x64x256 .fp8e4m3) (xs1 : Vec F S32x24x128 .f32)
    (y : S24x512.Idx) (n : Fin 4) (x : S24x128.Idx) (h0 : (y 0).val = (x 0).val) (h1 : (y 1).val = 128 * n.val + (x 1).val) :
    outV i x1 x2 xs0 xs1 y = k0_pay538 (accAll i x1 x2 xs0 xs1 n) x := by
  have hx : (x 1).val < 128 := (x 1).isLt
  have e : (⟨(y 1).val / 128, by have := idx2_lt1 y; omega⟩ : Fin 4) = n := Fin.ext (by show (y 1).val / 128 = n.val; omega)
  have e' : (ix2 (y 0) ⟨(y 1).val % 128, Nat.mod_lt _ (by decide)⟩ : S24x128.Idx) = x := by
    funext a
    match a with
    | ⟨0, _⟩ => exact Fin.ext h0
    | ⟨1, _⟩ => exact Fin.ext (by show (y 1).val % 128 = (x 1).val; omega)
  unfold outV
  rw [e, e']

/-- The `n`-th 128 columns of the block of results. -/
abbrev outRect (n : Fin 4) : Rect S24x512 := Rect.unit ![0, 128 * n.val] ![24, 128] (by
  intro a; have := n.isLt; fin_cases a <;> simp [S24x512] <;> omega)
/-- The four parts of a block, the last stored first. -/
def parts : List (Fin 4) := [3, 2, 1, 0]
/-- Every part is in the list. -/
theorem mem_parts (n : Fin 4) : n ∈ parts := by revert n; decide

variable (c : Dev nD) (i : grid0.Coords) (arg1 : Memref sig .tc .vmem S24x4096 .bf16) (harg1 : arg1.IsWhole) (arg2 : Memref sig .tc .vmem S512x4096 .fp8e4m3) (harg2 : arg2.IsWhole) (arg3 : Memref sig .tc .smem S128x32 .f32) (harg3 : arg3.IsWhole) (arg4 : Memref sig .tc .vmem S24x512 .bf16) (harg4 : arg4.IsWhole) (arg5 : Memref sig .tc .vmem S24x4096 .fp8e4m3) (harg5 : arg5.IsWhole) (arg6 : Memref sig .tc .vmem S24x32 .f32) (harg6 : arg6.IsWhole) (arg7 : Memref sig .tc .vmem S16x64x256 .fp8e4m3) (harg7 : arg7.IsWhole) (arg8 : Memref sig .tc .vmem S32x24x128 .f32) (harg8 : arg8.IsWhole)
  (x1 : Vec F S512x4096 .fp8e4m3) (x2 : Vec F S128x32 .f32) (xs0 : Vec F S16x64x256 .fp8e4m3) (xs1 : Vec F S32x24x128 .f32)

set_option maxHeartbeats 4000000 in
/-- The stores of one run are the parts' sums. -/
theorem blockRun_pieces : (blockRun c i arg1 harg1 arg2 harg2 arg3 harg3 arg4 harg4 arg5 harg5 arg6 harg6 arg7 harg7 arg8 harg8 x1 x2 xs0 xs1).1
    = parts.map fun n => ⟨outRect n, k0_pay538 (accAll i (arg2.view.read (Elt F) (harg2.unread x1)) (arg3.view.read (Elt F) (harg3.unread x2)) (arg7.view.read (Elt F) (harg7.unread xs0)) (arg8.view.read (Elt F) (harg8.unread xs1)) n)⟩ := rfl

/-- What the block of products leaves in the block of results' buffer reads as the block of results. -/
theorem read_out (v : View sig .tc .vmem S24x512 .bf16) (f : v.ty.Contents (Elt F)) :
    v.read (Elt F) (v.writes (Elt F) f (blockRun c i arg1 harg1 arg2 harg2 arg3 harg3 arg4 harg4 arg5 harg5 arg6 harg6 arg7 harg7 arg8 harg8 x1 x2 xs0 xs1).1) = outV i x1 x2 xs0 xs1 := by
  rw [blockRun_pieces, harg2.read_unread, harg3.read_unread, harg7.read_unread, harg8.read_unread]
  refine read_writes_of_pieces v f _ _ ?_ ?_
  · simp only [List.forall_mem_map]
    intro n _ x
    exact (outV_apply i x1 x2 xs0 xs1 _ n x (by show 0 + 1 * (x 0).val = (x 0).val; omega)
      (by show 128 * n.val + 1 * (x 1).val = 128 * n.val + (x 1).val; omega)).symm
  · intro y
    have h1 := idx2_lt1 y
    refine ⟨_, List.mem_map.mpr ⟨⟨(y 1).val / 128, by omega⟩, mem_parts _, rfl⟩, ?_⟩
    show y ∈ (outRect ⟨(y 1).val / 128, by omega⟩).set
    refine Rect.mem_set_unit.mpr fun a => ?_
    match a with
    | ⟨0, _⟩ => exact ⟨Nat.zero_le _, by have := idx2_lt0 y; show (y 0).val < 0 + 24; omega⟩
    | ⟨1, _⟩ => exact ⟨by show 128 * ((y 1).val / 128) ≤ (y 1).val; omega, by show (y 1).val < 128 * ((y 1).val / 128) + 128; omega⟩

/-- The block of products' triple: from whole buffers it leaves the block of results. -/
theorem block_wp (E : Set ℕ) (K : PUnit → sProp 𝕄) :
    iprop(owns (c : Thread nD τ) arg2 fullShare x1 ∗ owns (c : Thread nD τ) arg3 fullShare x2 ∗ (∃ d, owns (c : Thread nD τ) arg4 fullShare d) ∗ owns (c : Thread nD τ) arg7 fullShare xs0 ∗ owns (c : Thread nD τ) arg8 fullShare xs1
        ∗ (iprop(owns (c : Thread nD τ) arg2 fullShare x1 ∗ owns (c : Thread nD τ) arg3 fullShare x2 ∗ owns (c : Thread nD τ) arg4 fullShare (outV i x1 x2 xs0 xs1) ∗ owns (c : Thread nD τ) arg7 fullShare xs0 ∗ owns (c : Thread nD τ) arg8 fullShare xs1) -∗ K ⟨⟩))
      ⊢ wp frame (wpE (defs₀ (F := F)) Variants.none c none) E (blockProg i arg1 harg1 arg2 harg2 arg3 harg3 arg4 harg4 arg5 harg5 arg6 harg6 arg7 harg7 arg8 harg8) K := by
  refine BIBase.Entails.trans ?_ ((blockRun c i arg1 harg1 arg2 harg2 arg3 harg3 arg4 harg4 arg5 harg5 arg6 harg6 arg7 harg7 arg8 harg8 x1 x2 xs0 xs1).2 E K)
  iintro ⟨H1, H2, H3, HS0, HS1, Hk⟩
  isplitl [H1]; · iexact H1
  isplitl [H2]; · iexact H2
  isplitl [H3]; · iexact H3
  isplitl [HS0]; · iexact HS0
  isplitl [HS1]; · iexact HS1
  iintro ⟨H1, H2, ⟨%f3, H3⟩, HS0, HS1⟩
  iapply Hk
  isplitl [H1]; · iexact H1
  isplitl [H2]; · iexact H2
  isplitl [H3]
  · unfold owns
    iexists _; isplitr; · ipureintro; exact read_out c i arg1 harg1 arg2 harg2 arg3 harg3 arg4 harg4 arg5 harg5 arg6 harg6 arg7 harg7 arg8 harg8 x1 x2 xs0 xs1 _ f3
    iexact H3
  isplitl [HS0]; · iexact HS0
  iexact HS1

end Cert.KernelIdeal.Gen

end
-- ==== Proof.Run.lean ====
/- The kernel's launch: at every grid point the body leaves what the closed forms of the quantiser and of the block of
   products say, so every execution terminates with the arguments unchanged and the results at those values. -/
module

public import proofs.«01_k».proof.Proof.Quant
public import proofs.«01_k».proof.Proof.Gen.KernelIdeal.Frame
public import Idealize.ShloMosaic.Lib.Pipeline.TableIdle
public import Idealize.ShloMosaic.Lib.Claim
public import proofs.«01_k».proof.Proof.Block
public import Idealize.ShloMosaic.Lib.WordCmp
public import Idealize.ShloMosaic.Lib.Pipeline.FrameBody
public import Idealize.ShloMosaic.Lib.Tactic
public import Idealize.ShloMosaic.Lib.Pipeline.Value
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's condition, and where the windows are idle -/

/-- The quantiser runs at the first point only. -/
theorem cond_iff : ∀ t : Fin cfg0.N, k0_cond1 (grid0.coords t) = 1#1 ↔ t.val = 0 :=
  (fun t => by
    have ht : t.val < 32 := Nat.lt_of_lt_of_eq t.isLt N_0
    have e0 : (grid0.coords t 0).val = t.val / 1 % 32 := Pipeline.Grid.coords_val t 0 (by decide) rfl
    simp only [k0_cond1, e0]
    word_cmp
   : ∀ t : Fin grid0.N, k0_cond1 (grid0.coords t) = 1#1 ↔ t.val = 0)

/-- Whether window 4's buffer holds nothing stored since the region's entry or the last write-back. -/
def freshTab4 : ℕ → Bool
  | 0 => true
  | n + 1 => (0x80000000 : ℕ).testBit n
/-- The table for the codes' buffer follows the pipeline from each point to the next. -/
theorem freshTab4_step : ∀ t : Fin cfg0.N,
    freshTab4 (t.val + 1) = ((cfg0.win 4).flush t || (cfg0.idle 4 (cfg0.grid.coords t) && freshTab4 t.val)) := by decide +kernel
/-- After the first point it holds what that point stored. -/
theorem notFresh4 : ∀ t : Fin cfg0.N, t.val ≠ 0 → cfg0.fresh 4 t.val = false := by
  intro t; rw [Pipeline.Cfg.fresh_tab cfg0 4 freshTab4 rfl freshTab4_step t.val (Nat.le_of_lt t.isLt)]; revert t; decide +kernel
/-- Whether window 5's buffer holds nothing stored since the region's entry or the last write-back. -/
def freshTab5 : ℕ → Bool
  | 0 => true
  | n + 1 => (0x80000000 : ℕ).testBit n
/-- The table for the scales' buffer follows the pipeline from each point to the next. -/
theorem freshTab5_step : ∀ t : Fin cfg0.N,
    freshTab5 (t.val + 1) = ((cfg0.win 5).flush t || (cfg0.idle 5 (cfg0.grid.coords t) && freshTab5 t.val)) := by decide +kernel
/-- After the first point it holds what that point stored. -/
theorem notFresh5 : ∀ t : Fin cfg0.N, t.val ≠ 0 → cfg0.fresh 5 t.val = false := by
  intro t; rw [Pipeline.Cfg.fresh_tab cfg0 5 freshTab5 rfl freshTab5_step t.val (Nat.le_of_lt t.isLt)]; revert t; decide +kernel

/-! ## The staging and scratch memrefs -/

/-- Each window's current staging memref at point `t`, spelled as the pipeline passes it (`bodyAt0`), and its wholeness. -/
abbrev ms0_0 (t : Fin cfg0.N) : Memref sig .tc .vmem S24x4096 .bf16 := win0_0.stage (cfg0.slots t 0)
/-- That buffer is whole. -/
abbrev hs0_0 (t : Fin cfg0.N) : (ms0_0 t).IsWhole := hstage0_0 ((cfg0.slots t 0).cast nbuf0_0)
/-- The weights' buffer at a point. -/
abbrev ms0_1 (t : Fin cfg0.N) : Memref sig .tc .vmem S512x4096 .fp8e4m3 := win0_1.stage (cfg0.slots t 1)
/-- That buffer is whole. -/
abbrev hs0_1 (t : Fin cfg0.N) : (ms0_1 t).IsWhole := hstage0_1 ((cfg0.slots t 1).cast nbuf0_1)
/-- The weight scales' buffer at a point. -/
abbrev ms0_2 (t : Fin cfg0.N) : Memref sig .tc .smem S128x32 .f32 := win0_2.stage (cfg0.slots t 2)
/-- That buffer is whole. -/
abbrev hs0_2 (t : Fin cfg0.N) : (ms0_2 t).IsWhole := hstage0_2 ((cfg0.slots t 2).cast nbuf0_2)
/-- The results' buffer at a point. -/
abbrev ms0_3 (t : Fin cfg0.N) : Memref sig .tc .vmem S24x512 .bf16 := win0_3.stage (cfg0.slots t 3)
/-- That buffer is whole. -/
abbrev hs0_3 (t : Fin cfg0.N) : (ms0_3 t).IsWhole := hstage0_3 ((cfg0.slots t 3).cast nbuf0_3)
/-- The codes' buffer at a point. -/
abbrev ms0_4 (t : Fin cfg0.N) : Memref sig .tc .vmem S24x4096 .fp8e4m3 := win0_4.stage (cfg0.slots t 4)
/-- That buffer is whole. -/
abbrev hs0_4 (t : Fin cfg0.N) : (ms0_4 t).IsWhole := hstage0_4 ((cfg0.slots t 4).cast nbuf0_4)
/-- The scales' buffer at a point. -/
abbrev ms0_5 (t : Fin cfg0.N) : Memref sig .tc .vmem S24x32 .f32 := win0_5.stage (cfg0.slots t 5)
/-- That buffer is whole. -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S16x64x256 .fp8e4m3 := Memref.whole cc0_scratch0
/-- The scratch of broadcast scales. -/
abbrev scM0_1 : Memref sig .tc .vmem S32x24x128 .f32 := Memref.whole cc0_scratch1
/-- What the launch hands the region: the scratch at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The activations as the region finds them (every point's block of window 0). -/
def actsIn (c : Dev nD) : Vec F S24x4096 .bf16 := iblk m c 0 ⟨0, by have : cfg0.N = 32 := N_0; omega⟩

/-- The invariant: after the first point the scratch holds the quantiser's operands and scales. -/
def PhiS (c : Dev nD) : (n : ℕ) → n ≤ cfg0.N → sProp 𝕄
  | 0, _ => Pipeline.ΦA spec0 c
  | n + 1, hn => iprop(iprop(owns (c : Thread nD τ) scM0_0 fullShare (opsV (actsIn m c)) ∗ owns (c : Thread nD τ) scM0_1 fullShare (actV (actsIn m c))) ∗ (∃ r, prngReg c r))

/-- Before the first point the scratch holds anything. -/
theorem PhiS_zero (c : Dev nD) (n : ℕ) (h : n ≤ cfg0.N) (hz : n = 0) : PhiS m c n h = Pipeline.ΦA spec0 c := by
  subst hz; rfl
/-- After a point the scratch holds the first point's values. -/
theorem PhiS_succ (c : Dev nD) (n : ℕ) (hn : n < cfg0.N) :
    PhiS m c (n + 1) hn = iprop(iprop(owns (c : Thread nD τ) scM0_0 fullShare (opsV (actsIn m c)) ∗ owns (c : Thread nD τ) scM0_1 fullShare (actV (actsIn m c))) ∗ (∃ r, prngReg c r)) := rfl
/-- Before a later point the scratch holds the first point's values. -/
theorem PhiS_pos (c : Dev nD) (n : ℕ) (h : n ≤ cfg0.N) (hz : n ≠ 0) :
    PhiS m c n h = iprop(iprop(owns (c : Thread nD τ) scM0_0 fullShare (opsV (actsIn m c)) ∗ owns (c : Thread nD τ) scM0_1 fullShare (actV (actsIn m c))) ∗ (∃ r, prngReg c r)) := by
  cases n with
  | zero => exact absurd rfl hz
  | succ n => rfl

/-- What each point leaves: the inputs in place, the block of results, and the codes and scales of all activations. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV (grid0.coords t) (iblk m c 1 t) (iblk m c 2 t) (opsV (actsIn m c)) (actV (actsIn m c))
    | ⟨4, _⟩ => codesV (actsIn m c)
    | ⟨5, _⟩ => scalesV (actsIn m c)
  Φ t := PhiS m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]
/-- The invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The activations' buffer after a point. -/
theorem after0_0 (c : Dev nD) (t : Fin cfg0.N) : (dats m 0 c).after 0 t = iblk m c 0 t := by dsimp only [dats]
/-- The weights' buffer after a point. -/
theorem after0_1 (c : Dev nD) (t : Fin cfg0.N) : (dats m 0 c).after 1 t = iblk m c 1 t := by dsimp only [dats]
/-- The weight scales' buffer after a point. -/
theorem after0_2 (c : Dev nD) (t : Fin cfg0.N) : (dats m 0 c).after 2 t = iblk m c 2 t := by dsimp only [dats]
/-- The results' buffer after a point. -/
theorem after0_3 (c : Dev nD) (t : Fin cfg0.N) : (dats m 0 c).after 3 t = outV (grid0.coords t) (iblk m c 1 t) (iblk m c 2 t) (opsV (actsIn m c)) (actV (actsIn m c)) := by dsimp only [dats]
/-- The codes' buffer after a point. -/
theorem after0_4 (c : Dev nD) (t : Fin cfg0.N) : (dats m 0 c).after 4 t = codesV (actsIn m c) := by dsimp only [dats]
/-- The scales' buffer after a point. -/
theorem after0_5 (c : Dev nD) (t : Fin cfg0.N) : (dats m 0 c).after 5 t = scalesV (actsIn m c) := by dsimp only [dats]

/-- The activations' buffer before a point. -/
theorem before0_0 (c : Dev nD) (t : Fin cfg0.N) (d) : (dats m 0 c).before 0 t d = iblk m c 0 t :=
  before0_0_of m (dats m 0 c) (A_eq m c 0) (after0_0 m c) t d
/-- The weights' buffer before a point. -/
theorem before0_1 (c : Dev nD) (t : Fin cfg0.N) (d) : (dats m 0 c).before 1 t d = iblk m c 1 t :=
  before0_1_of m (dats m 0 c) (A_eq m c 1) (after0_1 m c) t d
/-- The weight scales' buffer before a point. -/
theorem before0_2 (c : Dev nD) (t : Fin cfg0.N) (d) : (dats m 0 c).before 2 t d = iblk m c 2 t :=
  before0_2_of m (dats m 0 c) (A_eq m c 2) (after0_2 m c) t d
/-- After the first point the buffer of the codes holds them. -/
theorem before0_4 (c : Dev nD) (t : Fin cfg0.N) (h : t.val ≠ 0) (d) : (dats m 0 c).before 4 t d = codesV (actsIn m c) := by
  rw [Dat.before_out_traj _ 4 rfl (fun _ _ => rfl) (fun t _ _ _ => by rw [after0_4, after0_4]) t.val t rfl d,
    if_neg (by rw [notFresh4 t h]; exact Bool.false_ne_true)]
  dsimp only [dats]
/-- The codes in place are what every point leaves, the point storing them or not. -/
theorem leaves_4 (c : Dev nD) (t : Fin cfg0.N) :
    (owns (c : Thread nD τ) (ms0_4 t) fullShare (codesV (actsIn m c)) : sProp 𝕄) ⊢ (dats m 0 c).leavesExact 4 t := by
  by_cases h : t.val = 0
  · have hi : cfg0.idle 4 (cfg0.grid.coords t) = false := by
      show (!(k0_cond1 (grid0.coords t) == 1#1)) = false
      rw [(cond_iff t).mpr h]; rfl
    unfold Dat.leavesExact; rw [hi]; exact .rfl
  · have hi : cfg0.idle 4 (cfg0.grid.coords t) = true := by
      show (!(k0_cond1 (grid0.coords t) == 1#1)) = true
      rw [beq_false_of_ne (fun e => h ((cond_iff t).mp e))]; rfl
    cases hf : (cfg0.win 4).flush t with
    | true => unfold Dat.leavesExact; rw [hi, hf]; exact .rfl
    | false =>
      rw [Dat.leavesExact_idle _ _ _ hi hf]
      iintro H
      iexists (codesV (actsIn m c))
      rw [before0_4 m c t h]
      iexact H
/-- After the first point the buffer of the scales holds them. -/
theorem before0_5 (c : Dev nD) (t : Fin cfg0.N) (h : t.val ≠ 0) (d) : (dats m 0 c).before 5 t d = scalesV (actsIn m c) := by
  rw [Dat.before_out_traj _ 5 rfl (fun _ _ => rfl) (fun t _ _ _ => by rw [after0_5, after0_5]) t.val t rfl d,
    if_neg (by rw [notFresh5 t h]; exact Bool.false_ne_true)]
  dsimp only [dats]
/-- The scales in place are what every point leaves, the point storing them or not. -/
theorem leaves_5 (c : Dev nD) (t : Fin cfg0.N) :
    (owns (c : Thread nD τ) (ms0_5 t) fullShare (scalesV (actsIn m c)) : sProp 𝕄) ⊢ (dats m 0 c).leavesExact 5 t := by
  by_cases h : t.val = 0
  · have hi : cfg0.idle 5 (cfg0.grid.coords t) = false := by
      show (!(k0_cond1 (grid0.coords t) == 1#1)) = false
      rw [(cond_iff t).mpr h]; rfl
    unfold Dat.leavesExact; rw [hi]; exact .rfl
  · have hi : cfg0.idle 5 (cfg0.grid.coords t) = true := by
      show (!(k0_cond1 (grid0.coords t) == 1#1)) = true
      rw [beq_false_of_ne (fun e => h ((cond_iff t).mp e))]; rfl
    cases hf : (cfg0.win 5).flush t with
    | true => unfold Dat.leavesExact; rw [hi, hf]; exact .rfl
    | false =>
      rw [Dat.leavesExact_idle _ _ _ hi hf]
      iintro H
      iexists (scalesV (actsIn m c))
      rw [before0_5 m c t h]
      iexact H

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare (iblk m c 0 t) from rfl]
  rw [show (dats m 0 c).leavesExact 1 t = owns (c : Thread nD τ) (ms0_1 t) fullShare (iblk m c 1 t) from rfl]
  rw [show (dats m 0 c).leavesExact 2 t = owns (c : Thread nD τ) (ms0_2 t) fullShare (iblk m c 2 t) from rfl]
  rw [show (dats m 0 c).leavesExact 3 t = owns (c : Thread nD τ) (ms0_3 t) fullShare (outV (grid0.coords t) (iblk m c 1 t) (iblk m c 2 t) (opsV (actsIn m c)) (actV (actsIn m c))) from rfl]
  by_cases h : t.val = 0
  · rw [PhiS_castSucc m c t, PhiS_zero m c _ _ h, PhiA0_eq]
    have hx : iblk m c 0 t = actsIn m c := by unfold actsIn; congr 1
    rw [hx, body_pos (hc := (cond_iff t).mpr h), wp_bind]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (quant_wp c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (actsIn m c) Set.univ _)
    isplitl [H0]; · iexact H0
    isplitl [H4]; · iexists _; iexact H4
    isplitl [H5]; · iexists _; iexact H5
    isplitl [HS0]; · iexact HS0
    isplitl [HS1]; · iexact HS1
    iintro ⟨H0, H4, H5, HS0, HS1⟩
    iapply (block_wp c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 1 t) (iblk m c 2 t) (opsV (actsIn m c)) (actV (actsIn m c)) Set.univ _)
    isplitl [H1]; · iexact H1
    isplitl [H2]; · iexact H2
    isplitl [H3]; · iexists _; iexact H3
    isplitl [HS0]; · iexact HS0
    isplitl [HS1]; · iexact HS1
    iintro ⟨H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    iapply (leaves_5 m c t); iexact H5
  · rw [PhiS_castSucc m c t, PhiS_pos m c _ _ h]
    rw [body_neg (hc := fun e => h ((cond_iff t).mp e))]
    simp only [before0_4 m c t h, before0_5 m c t h]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (block_wp c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 1 t) (iblk m c 2 t) (opsV (actsIn m c)) (actV (actsIn m c)) Set.univ _)
    isplitl [H1]; · iexact H1
    isplitl [H2]; · iexact H2
    isplitl [H3]; · iexists _; iexact H3
    isplitl [HS0]; · iexact HS0
    isplitl [HS1]; · iexact HS1
    iintro ⟨H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    iapply (leaves_5 m c t); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every execution terminates, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Frames.lean ====
/- The two kernel frames: the kernel at bits is the idealized kernel's program, so its frame is that program's. -/
module

public import proofs.«01_k».proof.Defs
public import proofs.«01_k».proof.Proof.Run
public import proofs.«01_k».proof.Proof.Gen.Kernel
public import proofs.«01_k».proof.Proof.Gen.ReferenceIdeal.Frame

@[expose] public section

set_option maxRecDepth 16384

noncomputable section

namespace Cert.Proof

open Idealize.ShloMosaic Idealize.SL.Sem

attribute [local instance] Cert.Kernel.Gen.facts Cert.KernelIdeal.Gen.facts

/-- The kernel and the idealized kernel are one program. -/
theorem same_run (m : (ℓ : Loc Cert.Kernel.nD Cert.Kernel.τ Cert.Kernel.sig) → Buf (Elt Bits) ℓ) (g : Dev Cert.Kernel.nD → PrngReg) :
    θ_run (Cert.KernelIdeal.defs (F := Bits)) (onTc (τ := Cert.KernelIdeal.τ) (Cert.KernelIdeal.main (F := Bits))) ⟨m, fun _ => 0, g⟩
      = θ_run (Cert.Kernel.defs (F := Bits)) (onTc (τ := Cert.Kernel.τ) (Cert.Kernel.main (F := Bits))) ⟨m, fun _ => 0, g⟩ := by sl_kernel_rfl

/-- The kernel at bits terminates with its arguments unchanged and every counter at zero. -/
theorem kernel_frame : quiescent_Kernel (hKernel := Cert.Kernel.Gen.facts) := by
  intro m g _
  rw [← same_run]
  exact Cert.KernelIdeal.Gen.frame (F := Bits) m g

/-- The idealized kernel terminates with its arguments unchanged and every counter at zero. -/
theorem kernelIdeal_frame : quiescent_KernelIdeal (hKernelIdeal := Cert.KernelIdeal.Gen.facts) :=
  fun m g _ => Cert.KernelIdeal.Gen.frame (F := Ideal) m g

/-- The reference terminates with its arguments unchanged and every counter at zero. -/
theorem reference_frame : quiescent_ReferenceIdeal (hReferenceIdeal := Cert.ReferenceIdeal.Gen.facts) :=
  fun m g _ => Cert.ReferenceIdeal.Gen.frame (F := Ideal) m g

end Cert.Proof

end
-- ==== Proof.Scale.lean ====
/- The two ways to take the least power of two above a number: the kernel counts up the exponent fields whose power is
   at most the number, the reference takes the floor of its logarithm to base two. Over the extended reals they give the
   same scale and the same inverse. -/
module

public import Idealize.ShloMosaic.PureOps.Ideal
public import Idealize.ShloMosaic.PureOps.Reduce
public import Idealize.ShloMosaic.Lib.Tactic

@[expose] public section

noncomputable section

namespace Cert.Scale

open Idealize.ShloMosaic

/-! ### Powers of two as words -/

/-- The word of the float whose exponent field is `w` and whose significand field is zero. -/
def word (w : BitVec 32) : BitVec 32 := IntOp.shli .vector w 23#32

/-- The float whose exponent field is `w` and whose significand field is zero. -/
def power (w : BitVec 32) : EReal := Ideal.ofBits .f32 (word w)

/-- A power's word has sign 0, the given exponent field and fraction 0. -/
theorem word_fields : ∀ k : Fin 256, (word (BitVec.ofNat 32 k.val)).extractLsb' 31 1 = 0#1 ∧
    ((word (BitVec.ofNat 32 k.val)).extractLsb' 23 8).toNat = k.val ∧
    ((word (BitVec.ofNat 32 k.val)).extractLsb' 0 23).toNat = 0 := by decide +kernel

/-- A normal exponent field `k` denotes `2 ^ (k - 127)`. -/
theorem power_normal (k : ℕ) (h1 : 1 ≤ k) (h2 : k ≤ 254) :
    power (BitVec.ofNat 32 k) = (((2 : ℝ) ^ ((k : ℤ) - 127) : ℝ) : EReal) := by
  obtain ⟨ha, hb, hc⟩ := word_fields ⟨k, by omega⟩
  simp only [power, Ideal.ofBits, Ideal.ieee, ha, hb, hc]
  rw [if_neg (by omega), if_neg (by omega)]
  refine congrArg Real.toEReal ?_
  rw [if_neg (by decide)]
  push_cast
  rw [one_mul, show (8388608 : ℝ) = (2 : ℝ) ^ (23 : ℤ) by norm_num, ← zpow_add₀ (by norm_num)]
  exact congrArg (fun z : ℤ => (2 : ℝ) ^ z) (by omega)

/-- The all-ones exponent field denotes infinity. -/
theorem power_top : power (BitVec.ofNat 32 255) = ⊤ := by
  obtain ⟨ha, hb, hc⟩ := word_fields ⟨255, by omega⟩
  simp only [power, Ideal.ofBits, Ideal.ieee, ha, hb, hc]
  simp

/-! ### The kernel's exponent field -/

/-- The signed maximum of two words below 256 is the greater number's word. -/
theorem maxsi_ofNat (a b : ℕ) (ha : a < 256) (hb : b < 256) :
    IntOp.maxsi (BitVec.ofNat 32 a) (BitVec.ofNat 32 b) = BitVec.ofNat 32 (max a b) := by
  unfold IntOp.maxsi
  have e : (BitVec.ofNat 32 b).slt (BitVec.ofNat 32 a) = decide (b < a) := by
    rw [BitVec.slt, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  rw [e]
  by_cases h : b < a
  · rw [if_pos (by simpa using h), max_eq_left h.le]
  · rw [if_neg (by simpa using h), max_eq_right (by omega)]

/-- The signed maximum of a word below 256 and the least word is the former. -/
theorem maxsi_least (a : ℕ) (ha : a < 256) :
    IntOp.maxsi (BitVec.ofNat 32 a) 2147483648#32 = BitVec.ofNat 32 a := by
  have : ∀ a : Fin 256, IntOp.maxsi (BitVec.ofNat 32 a.val) 2147483648#32 = BitVec.ofNat 32 a.val := by decide +kernel
  exact this ⟨a, ha⟩

/-- The signed maximum of small numbers, from the least word: the word of the greatest of them. -/
theorem fold_maxsi {ι : Type} (S : Finset ι) (g : ι → ℕ) (hg : ∀ k, g k < 256) (hS : S.Nonempty) :
    S.fold IntOp.maxsi 2147483648#32 (fun k => BitVec.ofNat 32 (g k)) = BitVec.ofNat 32 (S.sup g) := by
  classical
  induction hS using Finset.Nonempty.cons_induction with
  | singleton a => simp only [Finset.fold_singleton, Finset.sup_singleton]; exact maxsi_least _ (hg a)
  | cons a s h hs ih =>
    rw [Finset.fold_cons, Finset.sup_cons, ih]
    have : s.sup g < 256 := (Finset.sup_lt_iff (by decide)).mpr fun k _ => hg k
    exact maxsi_ofNat _ _ (hg a) this

/-- The greatest exponent field whose power is at most `v`, as the kernel takes it. -/
def field (v : EReal) : BitVec 32 :=
  (Finset.univ : Finset (Fin 256)).fold IntOp.maxsi 2147483648#32
    fun k => Scalar.select (Ideal.cmp .ole (power (BitVec.ofNat 32 k.val)) v) (BitVec.ofNat 32 k.val) 0#32

/-- The floor of the logarithm to base two. -/
def flog (v : ℝ) : ℤ := ⌊Real.log v / Real.log 2⌋

/-- The biased exponent of a real below `2 ^ 126`. -/
def biased (v : ℝ) : ℕ := if v < (2 : ℝ) ^ (-126 : ℤ) then 0 else (flog v + 127).toNat

/-- A power of two is at most a value just when its exponent is at most the logarithm's floor. -/
theorem le_log (v : ℝ) (h0 : 0 < v) (k : ℤ) : (2 : ℝ) ^ k ≤ v ↔ k ≤ flog v := by
  rw [flog, Int.le_floor, le_div_iff₀ (Real.log_pos (by norm_num)), ← Real.log_zpow,
    Real.log_le_log_iff (by positivity) h0]

/-- The logarithm's floor is below 126 for a value below `2 ^ 126`. -/
theorem log_lt (v : ℝ) (h0 : 0 < v) (h1 : v < (2 : ℝ) ^ (126 : ℤ)) : flog v < 126 := by
  by_contra h
  exact absurd ((le_log v h0 126).mpr (not_lt.mp h)) (not_le.mpr h1)

/-- The least normal number is positive. -/
theorem tiny_pos : (0 : ℝ) < (2 : ℝ) ^ (-126 : ℤ) := by positivity

/-- A field's power is at most `v` when the field is at most the biased exponent. -/
theorem power_le (v : ℝ) (h0 : 0 ≤ v) (h1 : v < (2 : ℝ) ^ (126 : ℤ)) (k : ℕ) (hk1 : 1 ≤ k) (hk : k < 256) :
    power (BitVec.ofNat 32 k) ≤ (v : EReal) ↔ k ≤ biased v := by
  rcases Nat.lt_or_ge k 255 with h | h
  · rw [power_normal k hk1 (by omega), EReal.coe_le_coe_iff, biased]
    split_ifs with ht
    · refine ⟨fun hle => ?_, fun h0 => absurd h0 (by omega)⟩
      have : (2 : ℝ) ^ (-126 : ℤ) ≤ (2 : ℝ) ^ ((k : ℤ) - 127) := zpow_le_zpow_right₀ (by norm_num) (by omega)
      exact absurd (this.trans hle) (not_le.mpr ht)
    · have hv : 0 < v := tiny_pos.trans_le (not_lt.mp ht)
      have hlo : -126 ≤ flog v := (le_log v hv _).mp (not_lt.mp ht)
      rw [le_log v hv]
      omega
  · obtain rfl : k = 255 := by omega
    rw [power_top, biased]
    refine ⟨fun hle => absurd hle (by simp), fun hle => ?_⟩
    split_ifs at hle with ht
    · omega
    · have := log_lt v (tiny_pos.trans_le (not_lt.mp ht)) h1
      omega

/-- The biased exponent is at most 252 for a value below `2 ^ 126`. -/
theorem biased_le (v : ℝ) (h1 : v < (2 : ℝ) ^ (126 : ℤ)) : biased v ≤ 252 := by
  rw [biased]
  split_ifs with ht
  · omega
  · have := log_lt v (tiny_pos.trans_le (not_lt.mp ht)) h1
    omega

/-- One field's contribution to the maximum: itself when its power is at most `v`. -/
theorem field_term (v : ℝ) (h0 : 0 ≤ v) (h1 : v < (2 : ℝ) ^ (126 : ℤ)) (k : ℕ) (hk : k < 256) :
    Scalar.select (Ideal.cmp .ole (power (BitVec.ofNat 32 k)) (v : EReal)) (BitVec.ofNat 32 k) 0#32
      = BitVec.ofNat 32 (if k ≤ biased v then k else 0) := by
  rcases Nat.eq_zero_or_pos k with rfl | hp
  · generalize Ideal.cmp .ole _ _ = c
    simp only [Scalar.select, ite_self]
  · have := power_le v h0 h1 k hp hk
    by_cases h : k ≤ biased v
    · rw [show Ideal.cmp .ole (power (BitVec.ofNat 32 k)) (v : EReal) = 1#1 from
        congrArg BitVec.ofBool (decide_eq_true (this.mpr h))]
      simp only [h, if_true, Scalar.select]
      rfl
    · rw [show Ideal.cmp .ole (power (BitVec.ofNat 32 k)) (v : EReal) = 0#1 from
        congrArg BitVec.ofBool (decide_eq_false fun q => h (this.mp q))]
      simp only [h, if_false, Scalar.select]
      rfl

/-- The kernel's exponent field is the biased exponent. -/
theorem field_eq (v : ℝ) (h0 : 0 ≤ v) (h1 : v < (2 : ℝ) ^ (126 : ℤ)) :
    field (v : EReal) = BitVec.ofNat 32 (biased v) := by
  have hb := biased_le v h1
  have hterm := fun k : Fin 256 => field_term v h0 h1 k.val k.isLt
  rw [field, Finset.fold_congr (fun k _ => hterm k),
    fold_maxsi Finset.univ (fun k : Fin 256 => if k.val ≤ biased v then k.val else 0)
      (fun k => by split_ifs <;> omega) Finset.univ_nonempty]
  refine congrArg (BitVec.ofNat 32) ?_
  apply le_antisymm
  · refine Finset.sup_le fun k _ => ?_
    split_ifs with h <;> omega
  · refine le_trans (le_of_eq ?_) (Finset.le_sup (Finset.mem_univ (⟨biased v, by omega⟩ : Fin 256)))
    simp

/-! ### The kernel's scale -/

/-- The unbiased exponent word from the field. -/
def expWord (w : BitVec 32) : BitVec 32 :=
  Scalar.select (IntOp.ori (IntOp.cmpi .eq w 0#32) (IntOp.cmpi .eq w 255#32)) 0#32 (IntOp.subi w 126#32)

/-- The kernel's scale for the number `v`. -/
def kScale (v : EReal) : EReal := power (IntOp.addi 127#32 (expWord (field v)))

/-- The kernel's inverse scale for the number `v`. -/
def kInv (v : EReal) : EReal := power (IntOp.subi 127#32 (expWord (field v)))

/-- The scale's exponent field is one above the given field, and that of 1 where the given field is 0. -/
theorem expWord_add : ∀ f : Fin 253, IntOp.addi 127#32 (expWord (BitVec.ofNat 32 f.val))
    = BitVec.ofNat 32 (if f.val = 0 then 127 else f.val + 1) := by decide +kernel

/-- The inverse scale's exponent field is 253 less the given field, and that of 1 where the given field is 0. -/
theorem expWord_sub : ∀ f : Fin 253, IntOp.subi 127#32 (expWord (BitVec.ofNat 32 f.val))
    = BitVec.ofNat 32 (if f.val = 0 then 127 else 253 - f.val) := by decide +kernel

/-- The exponent of the least power of two above `v`, and 0 for a number below the least normal one. -/
def expo (v : ℝ) : ℤ := if v < (2 : ℝ) ^ (-126 : ℤ) then 0 else flog v + 1

/-- The kernel's scale is a power of two. -/
theorem kScale_eq (v : ℝ) (h0 : 0 ≤ v) (h1 : v < (2 : ℝ) ^ (126 : ℤ)) :
    kScale (v : EReal) = (((2 : ℝ) ^ expo v : ℝ) : EReal) := by
  have hb := biased_le v h1
  rw [kScale, field_eq v h0 h1, expWord_add ⟨biased v, by omega⟩, power_normal _ (by split_ifs <;> omega)
    (by split_ifs <;> simp only [] at * <;> omega)]
  refine congrArg (fun z : ℤ => (((2 : ℝ) ^ z : ℝ) : EReal)) ?_
  simp only [expo, biased]
  split_ifs with ht h2 h2
  · rfl
  · exact absurd rfl h2
  · have := (le_log v (tiny_pos.trans_le (not_lt.mp ht)) (-126)).mp (not_lt.mp ht)
    omega
  · have := (le_log v (tiny_pos.trans_le (not_lt.mp ht)) (-126)).mp (not_lt.mp ht)
    omega

/-- The kernel's inverse scale is the opposite power. -/
theorem kInv_eq (v : ℝ) (h0 : 0 ≤ v) (h1 : v < (2 : ℝ) ^ (126 : ℤ)) :
    kInv (v : EReal) = (((2 : ℝ) ^ (-expo v) : ℝ) : EReal) := by
  have hb := biased_le v h1
  rw [kInv, field_eq v h0 h1, expWord_sub ⟨biased v, by omega⟩, power_normal _ (by split_ifs <;> simp only [] at * <;> omega)
    (by split_ifs <;> simp only [] at * <;> omega)]
  refine congrArg (fun z : ℤ => (((2 : ℝ) ^ z : ℝ) : EReal)) ?_
  simp only [expo, biased]
  split_ifs with ht h2 h2
  · rfl
  · exact absurd rfl h2
  · have := (le_log v (tiny_pos.trans_le (not_lt.mp ht)) (-126)).mp (not_lt.mp ht)
    omega
  · have := (le_log v (tiny_pos.trans_le (not_lt.mp ht)) (-126)).mp (not_lt.mp ht)
    have := log_lt v (tiny_pos.trans_le (not_lt.mp ht)) h1
    omega

/-! ### The reference's scale -/

/-- The reference's exponent for the number `v`. -/
def rExp (v : EReal) : EReal :=
  Scalar.select (Ideal.cmp .olt v (Ideal.ofBits .f32 0x00800000#32)) (Ideal.ofBits .f32 0x00000000#32)
    (Ideal.liftRound Int.floor (Ideal.div (Ideal.log v) (Ideal.log (Ideal.ofBits .f32 0x40000000#32)))
      + Ideal.ofBits .f32 0x3F800000#32)

/-- The reference's scale. -/
def rScale (v : EReal) : EReal := Ideal.pow (Ideal.ofBits .f32 0x40000000#32) (rExp v)

/-- The reference's inverse scale. -/
def rInv (v : EReal) : EReal := Ideal.pow (Ideal.ofBits .f32 0x40000000#32) (-(rExp v))

/-- The float word of two denotes the real 2. -/
theorem ofBits_two : Ideal.ofBits .f32 0x40000000#32 = ((2 : ℝ) : EReal) := by
  rw [show (0x40000000#32 : BitVec 32) = word (BitVec.ofNat 32 128) by decide +kernel, ← power, power_normal _ (by omega) (by omega)]
  norm_num

/-- The float word of one denotes the real 1. -/
theorem ofBits_one : Ideal.ofBits .f32 0x3F800000#32 = ((1 : ℝ) : EReal) := by
  rw [show (0x3F800000#32 : BitVec 32) = word (BitVec.ofNat 32 127) by decide +kernel, ← power, power_normal _ (by omega) (by omega)]
  norm_num

/-- The word of the least normal float denotes `2 ^ (-126)`. -/
theorem ofBits_tiny : Ideal.ofBits .f32 0x00800000#32 = (((2 : ℝ) ^ (-126 : ℤ) : ℝ) : EReal) := by
  rw [show (0x00800000#32 : BitVec 32) = word (BitVec.ofNat 32 1) by decide +kernel, ← power, power_normal _ (by omega) (by omega)]
  norm_num

/-- The float word of zero denotes the real 0. -/
theorem ofBits_zero : Ideal.ofBits .f32 0x00000000#32 = ((0 : ℝ) : EReal) := by
  simp [Ideal.ofBits, Ideal.ieee, -EReal.coe_mul]

/-- The reference's exponent of a real is the whole number `expo`. -/
theorem rExp_eq (v : ℝ) : rExp (v : EReal) = ((expo v : ℝ) : EReal) := by
  rw [rExp, ofBits_two, ofBits_one, ofBits_tiny, ofBits_zero]
  simp only [Scalar.select, Ideal.cmp, EReal.coe_lt_coe_iff, expo]
  by_cases ht : v < (2 : ℝ) ^ (-126 : ℤ)
  · rw [decide_eq_true ht, if_pos (by rfl), if_pos ht]; norm_num
  · rw [decide_eq_false ht, if_neg (by decide), if_neg ht]
    have hv : 0 < v := tiny_pos.trans_le (not_lt.mp ht)
    have e1 : Ideal.log (v : EReal) = ((Real.log v : ℝ) : EReal) := by
      show (if v ≤ 0 then (⊥ : EReal) else _) = _
      rw [if_neg (not_le.mpr hv)]
    have e2 : Ideal.log ((2 : ℝ) : EReal) = ((Real.log 2 : ℝ) : EReal) := by
      show (if (2 : ℝ) ≤ 0 then (⊥ : EReal) else _) = _
      rw [if_neg (by norm_num)]
    have h2 : Real.log 2 ≠ 0 := (Real.log_pos (by norm_num)).ne'
    have e3 : Ideal.div ((Real.log v : ℝ) : EReal) ((Real.log 2 : ℝ) : EReal) = ((Real.log v / Real.log 2 : ℝ) : EReal) := by
      rw [Ideal.div, if_neg (by exact_mod_cast h2), ← EReal.coe_inv, ← EReal.coe_mul, div_eq_mul_inv]
    rw [e1, e2, e3]
    show (((flog v : ℤ) : ℝ) : EReal) + ((1 : ℝ) : EReal) = _
    rw [← EReal.coe_add]
    push_cast
    rfl

/-- The reference's scale is a power of two. -/
theorem rScale_eq (v : ℝ) : rScale (v : EReal) = (((2 : ℝ) ^ expo v : ℝ) : EReal) := by
  rw [rScale, rExp_eq, ofBits_two]
  show ((Real.rpow 2 (expo v : ℝ) : ℝ) : EReal) = _
  refine congrArg Real.toEReal ?_
  exact Real.rpow_intCast 2 (expo v)

/-- The reference's inverse scale is the opposite power. -/
theorem rInv_eq (v : ℝ) : rInv (v : EReal) = (((2 : ℝ) ^ (-expo v) : ℝ) : EReal) := by
  rw [rInv, rExp_eq, ofBits_two, ← EReal.coe_neg]
  show ((Real.rpow 2 (-(expo v : ℝ)) : ℝ) : EReal) = _
  refine congrArg Real.toEReal ?_
  rw [show (-(expo v : ℝ)) = ((-expo v : ℤ) : ℝ) by push_cast; rfl]
  exact Real.rpow_intCast 2 (-expo v)

/-- The kernel's scale is the reference's. -/
theorem scale_agree (v : ℝ) (h0 : 0 ≤ v) (h1 : v < (2 : ℝ) ^ (126 : ℤ)) : kScale (v : EReal) = rScale (v : EReal) :=
  (kScale_eq v h0 h1).trans (rScale_eq v).symm

/-- The kernel's inverse scale is the reference's. -/
theorem inv_agree (v : ℝ) (h0 : 0 ≤ v) (h1 : v < (2 : ℝ) ^ (126 : ℤ)) : kInv (v : EReal) = rInv (v : EReal) :=
  (kInv_eq v h0 h1).trans (rInv_eq v).symm

/-! ### A group's numbers -/

/-- A group's greatest magnitude over 448. -/
def mag (r : Fin 128 → EReal) : EReal :=
  (Finset.univ : Finset (Fin 128)).fold max (Ideal.ofBits .f32 0xFF800000#32) (fun k => max (r k) (-(r k)))
    * Ideal.ofBits .f32 0x3B124925#32

/-- The range of the codes. -/
def clip (q : EReal) : EReal := min (Ideal.ofBits .f32 0x43E00000#32) (max (Ideal.ofBits .f32 0xC3E00000#32) q)

end Cert.Scale

end
-- ==== Proof.QuantAt.lean ====
/- The quantiser's results over the extended reals, entry by entry. -/
module

public import proofs.«01_k».proof.Proof.Quant
public import proofs.«01_k».proof.Proof.Scale
public import Idealize.ShloMosaic.PureOps.Ideal.Laws
public import Idealize.ShloMosaic.Lib.Pipeline.Value
public import Idealize.ShloMosaic.Lib.ValueIdx
public import Idealize.ShloMosaic.Lib.ValueLayout
public import Idealize.ShloMosaic.Lib.ValueLayoutCasts

@[expose] public section

set_option maxRecDepth 16384

noncomputable section

namespace Cert.KernelIdeal.Gen

open Idealize.ShloMosaic Idealize.ShloMosaic.ValueIdx
open Cert.Scale

/-! ### A group's exponent -/

/-- The cast to the wider format is the identity. -/
theorem pay4_eq (v : Vec Ideal S24x128 .bf16) : k0_pay4 v = v := shapeCast_self v _

/-- Each row's greatest magnitude over 448. -/
def magV (v : Vec Ideal S24x128 .bf16) : FVec Ideal S24x1 .f32 :=
  mulf (shapeCast S24x1 (multiReduction .maximumf [1] S24 (absf (k0_pay4 v)) 0xFF800000#32 reduces_S24x128_S24 (.inl rfl) rfl) shapeCasts_S24_S24x1)
    (broadcast S24x1 (Scalar.ofBits (F := Ideal) .f32 0x3B124925#32))

/-- A row's greatest magnitude over 448. -/
theorem magV_apply (v : Vec Ideal S24x128 .bf16) (t : Fin 24) (u : Fin 1) :
    magV v (ix2 t u) = mag fun k => v (ix2 t k) := by
  unfold magV
  rw [mulf_apply, pay4_eq]
  refine congrArg (· * _) ((shapeCast_a_a1_apply _ _ _ _).trans ((Ideal.multiReduction_maximumf_single _ _ _ _ _ _).trans
    (Finset.fold_congr fun k _ => ?_)))
  have : reduces_S24x128_S24.lift (ix1 t) k = ix2 t k := by
    funext a
    match a with
    | ⟨0, _⟩ => rfl
    | ⟨1, _⟩ => rfl
  show max (v (reduces_S24x128_S24.lift (ix1 t) k)) (-(v (reduces_S24x128_S24.lift (ix1 t) k))) = _
  rw [this]
  rfl

/-- Each row's exponent field. -/
def fieldV (v : Vec Ideal S24x128 .bf16) : IVec S24x1 32 :=
  shapeCast S24x1 (multiReductionI .maxsi [1] S24
    (select (cmpf .ole (bitcastToFloat .f32 (shli (iota .tc S24x256 32 [1] iota_S24x256_d1_w32) (broadcast S24x256 23#32)) : FVec Ideal S24x256 .f32)
        (broadcastTo S24x256 (magV v) broadcasts_S24x1_S24x256))
      (iota .tc S24x256 32 [1] iota_S24x256_d1_w32) (broadcast S24x256 0#32))
    2147483648#32 reduces_S24x256_S24 rfl) shapeCasts_S24_S24x1

/-- A row's exponent field. -/
theorem fieldV_apply (v : Vec Ideal S24x128 .bf16) (t : Fin 24) (u : Fin 1) :
    fieldV v (ix2 t u) = field (mag fun k => v (ix2 t k)) := by
  unfold fieldV
  refine (shapeCast_a_a1_apply _ _ _ _).trans ((multiReductionI_eq_fold _ _ _ _ _ _).trans
    ((reduces_S24x256_S24.fold_filter_drop_single _ _ _ _).trans (Finset.fold_congr fun k _ => ?_)))
  have : reduces_S24x256_S24.lift (ix1 t) k = ix2 t k := by
    funext a
    match a with
    | ⟨0, _⟩ => rfl
    | ⟨1, _⟩ => rfl
  rw [Function.comp_apply, this]
  have hi : iota .tc S24x256 32 [1] iota_S24x256_d1_w32 (ix2 t k) = BitVec.ofNat 32 k.val := iota_single_apply _ _ _ _ _ _
  have hb : broadcastTo S24x256 (magV v) broadcasts_S24x1_S24x256 (ix2 t k) = mag fun k => v (ix2 t k) := by
    rw [← magV_apply v t 0]
    refine broadcastTo_apply _ _ _ _ fun a => ?_
    match a with
    | ⟨0, _⟩ => rfl
    | ⟨1, _⟩ => rfl
  show Scalar.select (Ideal.cmp .ole (Ideal.ofBits .f32 (IntOp.shli .vector (iota .tc S24x256 32 [1] iota_S24x256_d1_w32 (ix2 t k)) 23#32))
    (broadcastTo S24x256 (magV v) broadcasts_S24x1_S24x256 (ix2 t k))) (iota .tc S24x256 32 [1] iota_S24x256_d1_w32 (ix2 t k)) 0#32 = _
  rw [hi, hb]
  rfl

/-- A row's exponent. -/
theorem pay5_apply (v : Vec Ideal S24x128 .bf16) (t : Fin 24) (u : Fin 1) :
    k0_pay5 v (ix2 t u) = expWord (field (mag fun k => v (ix2 t k))) := by
  rw [← fieldV_apply v t u]
  rfl

/-- A group's scale. -/
theorem pay6_apply (v : Vec Ideal S24x128 .bf16) (t : Fin 24) (u : Fin 1) :
    k0_pay6 v (ix2 t u) = kScale (mag fun k => v (ix2 t k)) := by
  show Ideal.ofBits .f32 (IntOp.shli .vector (IntOp.addi 127#32 (k0_pay5 v (ix2 t u))) 23#32) = _
  rw [pay5_apply]
  rfl

/-- A group's inverse scale, the same in each lane. -/
theorem pay7_apply (v : Vec Ideal S24x128 .bf16) (t : Fin 24) (k : Fin 128) :
    k0_pay7 v (ix2 t k) = kInv (mag fun k => v (ix2 t k)) := by
  unfold k0_pay7
  rw [broadcastTo_apply _ _ _ (ix2 t (0 : Fin 1)) fun a => by
    match a with
    | ⟨0, _⟩ => rfl
    | ⟨1, _⟩ => rfl]
  show Ideal.ofBits .f32 (IntOp.shli .vector (IntOp.subi 127#32 (k0_pay5 v (ix2 t 0))) 23#32) = _
  rw [pay5_apply]
  rfl

/-! ### A group's code -/

/-- The code of entry `k` of a group. -/
def code (r : Fin 128 → EReal) (k : Fin 128) : EReal := clip (r k * kInv (mag r))

/-- A row's clipped entry. -/
theorem pay8_apply (v : Vec Ideal S24x128 .bf16) (t : Fin 24) (k : Fin 128) :
    k0_pay8 (k0_pay4 v) (k0_pay7 v) (ix2 t k) = code (fun k => v (ix2 t k)) k := by
  show clip (k0_pay4 v (ix2 t k) * k0_pay7 v (ix2 t k)) = _
  rw [pay7_apply, pay4_eq]
  rfl

/-- A row's code. -/
theorem codeOf_apply (v : Vec Ideal S24x128 .bf16) (t : Fin 24) (k : Fin 128) :
    codeOf v (ix2 t k) = code (fun k => v (ix2 t k)) k := pay8_apply v t k

/-- A dot operand's quarter holds the codes in its first rows. -/
theorem opOf_apply (v : Vec Ideal S24x128 .bf16) (r : Fin 32) (t : Fin 24) (h : r.val = t.val) (k : Fin 128) :
    opOf v (ix3 0 r k) = code (fun k => v (ix2 t k)) k := by
  unfold opOf k0_pay9
  rw [shapeCast_ab_1ab_apply, ← pay8_apply]
  refine concatenate_pair_apply_left (t := S32x128) (s₁ := S24x128) (s₂ := S8x128) 0 (k0_pay8 (k0_pay4 v) (k0_pay7 v)) k0_pay3
    concatenates_S24x128_S8x128_S32x128_d0 (ix2 r k) rfl (ix2 t k) fun b => ?_
  match b with
  | ⟨0, _⟩ => exact h.symm
  | ⟨1, _⟩ => rfl

/-- The other quarter is zero. -/
theorem noOp_apply (i : S1x32x128.Idx) : noOp (F := Ideal) i = 0 := by
  have : Ideal.ofBits .fp8e4m3 0x00#8 = 0 := by simp [Ideal.ofBits, Ideal.e4m3fn, -EReal.coe_mul]
  exact this

/-- A group's scale in each lane. -/
theorem actOf_apply (v : Vec Ideal S24x128 .bf16) (t : Fin 24) (k : Fin 128) :
    actOf v (ix3 0 t k) = kScale (mag fun k => v (ix2 t k)) := by
  unfold actOf k0_pay12
  rw [shapeCast_ab_1ab_apply]
  rw [broadcastTo_apply _ _ _ (ix2 t (0 : Fin 1)) fun a => by
    match a with
    | ⟨0, _⟩ => rfl
    | ⟨1, _⟩ => rfl, shapeCast_self, pay6_apply]

/-! ### The buffers -/

/-- Row `t` of group `g`. -/
def row (x : S24x4096.Idx → EReal) (t : Fin 24) (g : Fin 32) (k : Fin 128) : EReal :=
  x (ix2 t ⟨128 * g.val + k.val, by omega⟩)

/-- A group's block, row by row. -/
theorem grp_apply (x : Vec Ideal S24x4096 .bf16) (g : Fin 32) (t : Fin 24) : (fun k => grp x g (ix2 t k)) = row x t g := by
  funext k
  refine congrArg x ?_
  funext a
  match a with
  | ⟨0, _⟩ => exact Fin.ext (by show 0 + 1 * t.val = t.val; omega)
  | ⟨1, _⟩ => exact Fin.ext (by show 128 * g.val + 1 * k.val = 128 * g.val + k.val; omega)

/-- The codes' buffer at an entry. -/
theorem codesV_apply (x : Vec Ideal S24x4096 .bf16) (t : Fin 24) (g : Fin 32) (k : Fin 128) :
    codesV x (ix2 t ⟨128 * g.val + k.val, by omega⟩) = code (row x t g) k := by
  rw [← grp_apply x g t, ← codeOf_apply]
  have e1 : (128 * g.val + k.val) / 128 = g.val := by omega
  have e2 : (128 * g.val + k.val) % 128 = k.val := by omega
  exact congrArg₂ (fun (g' : Fin 32) (k' : Fin 128) => codeOf (grp x g') (ix2 t k')) (Fin.ext e1) (Fin.ext e2)

/-- The broadcast scales' buffer at an entry. -/
theorem actV_apply (x : Vec Ideal S24x4096 .bf16) (t : Fin 24) (g : Fin 32) (k : Fin 128) :
    actV x (ix3 g t k) = kScale (mag (row x t g)) := by
  rw [← grp_apply x g t, ← actOf_apply]
  rfl

/-- A dot operand's entry in the rows and columns of its group. -/
theorem opsV_apply_same (x : Vec Ideal S24x4096 .bf16) (t : Fin 24) (g : Fin 32) (k : Fin 128) (j : Fin 16) (r : Fin 64) (q : Fin 256)
    (hj : j.val = g.val / 2) (hr : r.val = 32 * (g.val % 2) + t.val) (hq : q.val = 128 * (g.val % 2) + k.val) :
    opsV x (ix3 j r q) = code (row x t g) k := by
  rw [← grp_apply x g t, ← opOf_apply (grp x g) ⟨r.val % 32, by omega⟩ t (by show r.val % 32 = _; omega)]
  show (if r.val / 32 = q.val / 128 then _ else _) = _
  rw [if_pos (by omega)]
  exact congrArg₂ (fun (g' : Fin 32) (k' : Fin 128) => opOf (grp x g') (ix3 0 ⟨r.val % 32, by omega⟩ k'))
    (Fin.ext (by show 2 * j.val + r.val / 32 = g.val; omega)) (Fin.ext (by show q.val % 128 = k.val; omega))

/-- A dot operand's entry off its groups' quarters. -/
theorem opsV_apply_off (x : Vec Ideal S24x4096 .bf16) (j : Fin 16) (r : Fin 64) (q : Fin 256) (h : r.val / 32 ≠ q.val / 128) :
    opsV x (ix3 j r q) = 0 := by
  show (if r.val / 32 = q.val / 128 then _ else _) = _
  rw [if_neg h]
  exact noOp_apply _

/-- A group sets its own lane of the scales. -/
theorem setLane_apply (g : Fin 32) (prev : FVec Ideal S24x32 .f32) (v : Vec Ideal S24x128 .bf16) (t : Fin 24) (n : Fin 32) :
    setLane g prev v (ix2 t n) = if n = g then kScale (mag fun k => v (ix2 t k)) else prev (ix2 t n) := by
  unfold setLane
  rw [select_apply]
  have hb : broadcastTo S24x32 (shapeCast S24x1 (k0_pay6 v) shapeCasts_S24x1_S24x1) broadcasts_S24x1_S24x32 (ix2 t n)
      = kScale (mag fun k => v (ix2 t k)) := by
    rw [broadcastTo_apply _ _ _ (ix2 t (0 : Fin 1)) fun a => by
      match a with
      | ⟨0, _⟩ => rfl
      | ⟨1, _⟩ => rfl, shapeCast_self, pay6_apply]
  have hc : cmpi .eq (iota .tc S24x32 32 [1] iota_S24x32_d1_w32) (broadcast S24x32 (BitVec.ofNat 32 g.val)) (ix2 t n)
      = if n = g then 1#1 else 0#1 := by
    show IntOp.cmpi .eq (iota .tc S24x32 32 [1] iota_S24x32_d1_w32 (ix2 t n)) (BitVec.ofNat 32 g.val) = _
    rw [show iota .tc S24x32 32 [1] iota_S24x32_d1_w32 (ix2 t n) = BitVec.ofNat 32 n.val from iota_single_apply _ _ _ _ _ _]
    have : ∀ n g : Fin 32, IntOp.cmpi .eq (BitVec.ofNat 32 n.val) (BitVec.ofNat 32 g.val) = if n = g then 1#1 else 0#1 := by
      decide +kernel
    exact this n g
  rw [hc, hb]
  by_cases h : n = g
  · rw [if_pos h, if_pos h]; rfl
  · rw [if_neg h, if_neg h]; rfl

/-- The groups met set their own lanes and leave the rest. -/
theorem fold_setLane (x : Vec Ideal S24x4096 .bf16) (l : List (Fin 32)) (init : FVec Ideal S24x32 .f32) (t : Fin 24) (n : Fin 32)
    (h : n ∈ l) : l.foldr (fun g prev => setLane g prev (grp x g)) init (ix2 t n) = kScale (mag (row x t n)) := by
  induction l with
  | nil => exact absurd h List.not_mem_nil
  | cons a l ih =>
    rw [List.foldr_cons, setLane_apply, grp_apply]
    by_cases hn : n = a
    · rw [if_pos hn, hn]
    · rw [if_neg hn]
      exact ih ((List.mem_cons.mp h).resolve_left hn)

/-- The row of scales at a lane. -/
theorem scalesV_apply (x : Vec Ideal S24x4096 .bf16) (t : Fin 24) (g : Fin 32) :
    scalesV x (ix2 t g) = kScale (mag (row x t g)) := fold_setLane x groups _ t g (mem_groups g)

end Cert.KernelIdeal.Gen

end
-- ==== Proof.BlockAt.lean ====
/- The block of results over the extended reals, entry by entry: the sum over the groups of a group's products scaled by
   its two scales. -/
module

public import proofs.«01_k».proof.Proof.Block
public import proofs.«01_k».proof.Proof.QuantAt
public import Idealize.ShloMosaic.Lib.MatmulPlain

@[expose] public section

set_option maxRecDepth 16384

noncomputable section

namespace Cert.KernelIdeal.Gen

open Idealize.ShloMosaic Idealize.ShloMosaic.ValueIdx
open Cert.Scale

/-- A pair's product at an entry. -/
theorem pay340_apply (a : Vec Ideal S1x64x256 .fp8e4m3) (w : Vec Ideal S512x256 .fp8e4m3) (r : Fin 64) (q : Fin 512) :
    k0_pay340 a w (ix2 r q) = ∑ k : Fin 256, a (ix3 0 r k) * w (ix2 q k) := by
  have h := Ideal.matmul_transposedRhs_apply (M := 64) (K := 256) (N := 512) (φ₁ := .fp8e4m3) (φ₂ := .fp8e4m3) none (shapeCast S64x256 a shapeCasts_S1x64x256_S64x256) w
    (constant S64x512 .f32 0x00000000#32) r q
  refine (show k0_pay340 a w (ix2 r q) = _ from h).trans ?_
  rw [constant_apply, ofBits_zero, EReal.coe_zero, zero_add]
  exact Finset.sum_congr rfl fun k _ => congrArg (· * _) (shapeCast_1ab_ab_apply a _ r k)

/-- Weight row `q` in group `g`. -/
def wrow {n : ℕ} (w : (⟨2, ![n, 4096]⟩ : Shape).Idx → EReal) (q : Fin n) (g : Fin 32) (k : Fin 128) : EReal :=
  w (ix2 q ⟨128 * g.val + k.val, by omega⟩)

/-- A pair's product in the rows of one of its groups: the products of that group alone. -/
theorem part_apply (x : Vec Ideal S24x4096 .bf16) (w : Vec Ideal S512x4096 .fp8e4m3) (g : Fin 32) (t : Fin 24) (r : Fin 64)
    (hr : r.val = 32 * (g.val % 2) + t.val) (q : Fin 512) :
    k0_pay340 (View.ld (opsV x) (rowRect (pair g))) (View.ld w (wRect (pair g))) (ix2 r q)
      = ∑ k : Fin 128, code (row x t g) k * wrow w q g k := by
  rw [pay340_apply]
  have hp : (pair g).val = g.val / 2 := rfl
  have ha : ∀ k : Fin 256, View.ld (opsV x) (rowRect (pair g)) (ix3 0 r k) = opsV x (ix3 (pair g) r k) := fun k => by
    refine congrArg (opsV x) ?_
    funext a
    match a with
    | ⟨0, _⟩ => exact Fin.ext (by show (pair g).val + 1 * 0 = (pair g).val; omega)
    | ⟨1, _⟩ => exact Fin.ext (by show 0 + 1 * r.val = r.val; omega)
    | ⟨2, _⟩ => exact Fin.ext (by show 0 + 1 * k.val = k.val; omega)
  have hw : ∀ (k : Fin 128) (k' : Fin 256), k'.val = 128 * (g.val % 2) + k.val →
      View.ld w (wRect (pair g)) (ix2 q k') = wrow w q g k := fun k k' hk => by
    refine congrArg w ?_
    funext a
    match a with
    | ⟨0, _⟩ => exact Fin.ext (by show 0 + 1 * q.val = q.val; omega)
    | ⟨1, _⟩ => exact Fin.ext (by show 256 * (pair g).val + 1 * k'.val = 128 * g.val + k.val; omega)
  refine (Finset.sum_of_injOn (fun k : Fin 128 => (⟨128 * (g.val % 2) + k.val, by omega⟩ : Fin 256)) ?_ ?_ ?_ ?_).symm
  · intro k _ k' _ h
    have := congrArg Fin.val h
    exact Fin.ext (by simpa using this)
  · exact fun _ _ => Finset.mem_coe.mpr (Finset.mem_univ _)
  · intro k _ hk
    have : r.val / 32 ≠ k.val / 128 := fun h => hk ⟨⟨k.val % 128, Nat.mod_lt _ (by decide)⟩, Finset.mem_coe.mpr (Finset.mem_univ _),
      Fin.ext (by show 128 * (g.val % 2) + k.val % 128 = k.val; omega)⟩
    rw [ha, opsV_apply_off x _ r k this, zero_mul]
  · intro k _
    rw [ha, hw k _ rfl, opsV_apply_same x t g k (pair g) r _ hp hr rfl]

/-- Group `g`'s term of result `(t, q)`, the weight scale `s` given. -/
def term {n : ℕ} (x : S24x4096.Idx → EReal) (w : (⟨2, ![n, 4096]⟩ : Shape).Idx → EReal) (t : Fin 24) (q : Fin n) (g : Fin 32) (s : EReal) : EReal :=
  (∑ k : Fin 128, code (row x t g) k * wrow w q g k) * kScale (mag (row x t g)) * s

/-- The weight scale that a part and a group read. -/
theorem wsAt_eq (x2 : Vec Ideal S128x32 .f32) (i : grid0.Coords) (n : Fin 4) (g : Fin 32) (b : Fin 128) (hb : b.val = 4 * (i 0).val + n.val) :
    wsAt x2 i n g = x2 (ix2 b g) := by
  refine congrArg x2 ?_
  have h0 := wsOff_zero i n g
  funext a
  match a with
  | ⟨0, _⟩ => exact Fin.ext (by show wsOff i n g 0 + 1 * 0 = b.val; omega)
  | ⟨1, _⟩ => exact Fin.ext (by show g.val + 1 * 0 = g.val; omega)

/-- A group adds its term to a part's sum. -/
theorem accStep_apply (i : grid0.Coords) (x : Vec Ideal S24x4096 .bf16) (x1 : Vec Ideal S512x4096 .fp8e4m3) (x2 : Vec Ideal S128x32 .f32)
    (n : Fin 4) (g : Fin 32) (acc : FVec Ideal S24x128 .f32) (t : Fin 24) (l : Fin 128) (b : Fin 128) (hb : b.val = 4 * (i 0).val + n.val) :
    accStep i x1 x2 (opsV x) (actV x) n g acc (ix2 t l)
      = acc (ix2 t l) + term x x1 t ⟨128 * n.val + l.val, by omega⟩ g (x2 (ix2 b g)) := by
  have hh : (half g).val = g.val % 2 := rfl
  unfold accStep term
  rw [addf_apply, mulf_apply, mulf_apply]
  refine congrArg (acc (ix2 t l) + ·) (congrArg₂ (· * ·) (congrArg₂ (· * ·) ?_ ?_) ?_)
  · refine (extractStridedSlice_apply _ _ _ _ (ix2 (⟨32 * (half g).val + t.val, by omega⟩ : Fin 64) (⟨128 * n.val + l.val, by omega⟩ : Fin 512)) fun a => ?_).trans
      (part_apply x x1 g t _ rfl _)
    match a with
    | ⟨0, _⟩ => rfl
    | ⟨1, _⟩ => rfl
  · unfold k0_pay341
    rw [shapeCast_1ab_ab_apply, ← actV_apply x t g l]
    refine congrArg (actV x) ?_
    funext a
    match a with
    | ⟨0, _⟩ => exact Fin.ext (by show g.val + 1 * 0 = g.val; omega)
    | ⟨1, _⟩ => exact Fin.ext (by show 0 + 1 * t.val = t.val; omega)
    | ⟨2, _⟩ => exact Fin.ext (by show 0 + 1 * l.val = l.val; omega)
  · exact wsAt_eq x2 i n g b hb

/-- The groups are each met once. -/
theorem groups_perm : groups.Perm (List.finRange 32) := by decide

/-- A sum over the groups in the order met is the sum over all. -/
theorem sum_groups (f : Fin 32 → EReal) : (groups.map f).sum = ∑ g, f g := by
  rw [(groups_perm.map f).sum_eq, ← Fin.sum_univ_def]

/-- Steps that each add a term add, all together, the terms' sum. -/
theorem fold_add {α : Type} (f : Fin 32 → (α → EReal) → α → EReal) (y : α) (tm : Fin 32 → EReal) (h : ∀ g acc, f g acc y = acc y + tm g)
    (l : List (Fin 32)) (init : α → EReal) : l.foldr f init y = init y + (l.map tm).sum := by
  induction l with
  | nil => simp
  | cons a l ih => rw [List.foldr_cons, h, ih, List.map_cons, List.sum_cons, add_assoc, add_comm (tm a)]

/-- The sum over the groups at an entry. -/
theorem accAll_apply (i : grid0.Coords) (x : Vec Ideal S24x4096 .bf16) (x1 : Vec Ideal S512x4096 .fp8e4m3) (x2 : Vec Ideal S128x32 .f32)
    (n : Fin 4) (t : Fin 24) (l : Fin 128) (b : Fin 128) (hb : b.val = 4 * (i 0).val + n.val) :
    accAll i x1 x2 (opsV x) (actV x) n (ix2 t l) = ∑ g, term x x1 t ⟨128 * n.val + l.val, by omega⟩ g (x2 (ix2 b g)) := by
  unfold accAll
  rw [fold_add (accStep i x1 x2 (opsV x) (actV x) n) (ix2 t l) (fun g => term x x1 t ⟨128 * n.val + l.val, by omega⟩ g (x2 (ix2 b g)))
    (fun g acc => accStep_apply i x x1 x2 n g acc t l b hb), sum_groups]
  have : k0_pay338 (F := Ideal) (ix2 t l) = 0 := ofBits_zero.trans EReal.coe_zero
  rw [this, zero_add]

/-- The block of results at an entry. -/
theorem outV_at (i : grid0.Coords) (x : Vec Ideal S24x4096 .bf16) (x1 : Vec Ideal S512x4096 .fp8e4m3) (x2 : Vec Ideal S128x32 .f32)
    (t : Fin 24) (q : Fin 512) (b : Fin 128) (hb : b.val = 4 * (i 0).val + q.val / 128) :
    outV i x1 x2 (opsV x) (actV x) (ix2 t q) = ∑ g, term x x1 t q g (x2 (ix2 b g)) := by
  have hq := q.isLt
  rw [outV_apply i x1 x2 (opsV x) (actV x) (ix2 t q) ⟨q.val / 128, by omega⟩ (ix2 t (⟨q.val % 128, by omega⟩ : Fin 128)) rfl
    (by show q.val = 128 * (q.val / 128) + q.val % 128; omega)]
  refine (accAll_apply i x x1 x2 ⟨q.val / 128, by omega⟩ t ⟨q.val % 128, by omega⟩ b hb).trans ?_
  have : (⟨128 * (q.val / 128) + q.val % 128, by omega⟩ : Fin 512) = q := Fin.ext (by show 128 * (q.val / 128) + q.val % 128 = q.val; omega)
  rw [this]

end Cert.KernelIdeal.Gen

end
-- ==== Proof.KernelValue.lean ====
/- The kernel's three results over the extended reals, each an explicit function of the three arguments. -/
module

public import proofs.«01_k».proof.Proof.Run
public import proofs.«01_k».proof.Proof.BlockAt
public import Idealize.ShloMosaic.Lib.Claim
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI Idealize.SL.Sem
open Idealize.ShloMosaic.ValueIdx
open Idealize.ShloMosaic.Pipeline (Dat Cfg Window)
open Cert.Scale

variable (m : (ℓ : Loc nD τ sig) → Buf (Elt Ideal) ℓ) (ρ : Dev nD → PrngReg)

/-- The activations without their unit axis. -/
def acts (a : S24x1x4096.Idx → EReal) : S24x4096.Idx → EReal := fun y => a (ix3 (y 0) 0 (y 1))

/-- The reshape that drops the unit axis is `acts`. -/
theorem acts_eq (a : S24x1x4096.Idx → EReal) : shapeCast S24x4096 a shapeCasts_S24x1x4096_S24x4096 = acts a := by
  funext y
  obtain ⟨t, k, rfl⟩ : ∃ (t : Fin 24) (k : Fin 4096), y = ix2 t k := ⟨y 0, y 1, eq_ix2 y⟩
  refine shapeCast_apply (s := S24x1x4096) (t := S24x4096) a _ _ (ix3 t (0 : Fin 1) k) ?_
  refine (Shape.rowMajor_val_three (ix3 t (0 : Fin 1) k)).trans (Eq.trans ?_ (Shape.rowMajor_val_two (ix2 t k)).symm)
  show (t.val * 1 + 0) * 4096 + k.val = t.val * 4096 + k.val
  omega

/-- The activations' block is the whole array at each point. -/
theorem index0 : ∀ t : Fin cfg0.N, win0_0.index t = ![0, 0] := by decide +kernel

/-- Every point reads the whole of the activations. -/
theorem iblk0_eq (c : Dev nD) (t : Fin cfg0.N) : iblk m c 0 t = V m c main_v0 := by
  funext y
  unfold iblk
  blk_simp
  refine congrArg (V m c main_v0) ?_
  funext a
  match a with
  | ⟨0, _⟩ => exact Fin.ext (by blk_simp; rw [index0]; show 0 * 24 + (y 0).val = (y 0).val; omega)
  | ⟨1, _⟩ => exact Fin.ext (by blk_simp; rw [index0]; show 0 * 4096 + (y 1).val = (y 1).val; omega)

/-- The activations the kernel quantises are the first argument without its unit axis. -/
theorem actsIn_eq (c : Dev nD) : actsIn m c = acts (m ((c.tc : Thread nD τ).loc main_arg0)) := by
  have h : V m c main_v0 = shapeCast S24x4096 (m ((c.tc : Thread nD τ).loc main_arg0)) shapeCasts_S24x1x4096_S24x4096 := by
    simp only [V, hostOps0]
    after_results_simp <;> rfl
  exact (iblk0_eq m c _).trans (h.trans (acts_eq _))

/-- The result of the product at an entry: each group's products, scaled by its two scales, summed. -/
def outAll (a : S24x1x4096.Idx → EReal) (w : S16384x4096.Idx → EReal) (s : S128x32.Idx → EReal) : S24x16384.Idx → EReal := fun y =>
  ∑ g : Fin 32, term (acts a) w (y 0) (y 1) g (s (ix2 ⟨(y 1).val / 128, by have := idx2_lt1 y; omega⟩ g))

/-- A point's coordinate is its number. -/
theorem coords_val0 (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  omega

/-- The weights' block moves down with the point. -/
theorem index1 : ∀ t : Fin cfg0.N, win0_1.index t = ![t.val, 0] := by decide +kernel
/-- The weight scales' block is the whole array at each point. -/
theorem index2 : ∀ t : Fin cfg0.N, win0_2.index t = ![0, 0] := by decide +kernel
/-- The results' block moves right with the point. -/
theorem index3 : ∀ t : Fin cfg0.N, win0_3.index t = ![0, t.val] := by decide +kernel

/-- A point's block of weights at an entry. -/
theorem iblk1_apply (c : Dev nD) (t : Fin cfg0.N) (q : Fin 512) (k : Fin 4096) (q' : Fin 16384) (hq : q'.val = 512 * t.val + q.val) :
    iblk m c 1 t (ix2 q k) = m ((c.tc : Thread nD τ).loc main_arg1) (ix2 q' k) := by
  rw [← V_main_arg1 m c]
  unfold iblk
  blk_simp
  refine congrArg (V m c main_arg1) ?_
  funext a
  match a with
  | ⟨0, _⟩ => exact Fin.ext (by blk_simp; rw [index1]; show t.val * 512 + q.val = q'.val; omega)
  | ⟨1, _⟩ => exact Fin.ext (by blk_simp; rw [index1]; show 0 * 4096 + k.val = k.val; omega)

/-- The weight scales at an entry. -/
theorem iblk2_apply (c : Dev nD) (t : Fin cfg0.N) (b : Fin 128) (g : Fin 32) :
    iblk m c 2 t (ix2 b g) = m ((c.tc : Thread nD τ).loc main_arg2) (ix2 b g) := by
  rw [← V_main_arg2 m c]
  unfold iblk
  blk_simp
  refine congrArg (V m c main_arg2) ?_
  funext a
  match a with
  | ⟨0, _⟩ => exact Fin.ext (by blk_simp; rw [index2]; show 0 * 128 + b.val = b.val; omega)
  | ⟨1, _⟩ => exact Fin.ext (by blk_simp; rw [index2]; show 0 * 32 + g.val = g.val; omega)

/-- What a point leaves in the block of results, at an entry. -/
theorem after3_apply (c : Dev nD) (t : Fin cfg0.N) (r : Fin 24) (q : Fin 512) (q' : Fin 16384) (hq : q'.val = 512 * t.val + q.val) :
    (dats m 0 c).after 3 t (ix2 r q) = outAll (m ((c.tc : Thread nD τ).loc main_arg0)) (m ((c.tc : Thread nD τ).loc main_arg1))
      (m ((c.tc : Thread nD τ).loc main_arg2)) (ix2 r q') := by
  have hq' := q'.isLt
  rw [after0_3]
  refine (outV_at (grid0.coords t) (actsIn m c) (iblk m c 1 t) (iblk m c 2 t) r q ⟨q'.val / 128, by omega⟩
    (by rw [coords_val0]; show q'.val / 128 = _; omega)).trans ?_
  rw [actsIn_eq]
  refine Finset.sum_congr rfl fun g _ => ?_
  rw [iblk2_apply]
  have hw : wrow (iblk m c 1 t) q g = wrow (m ((c.tc : Thread nD τ).loc main_arg1)) q' g :=
    funext fun k => iblk1_apply m c t q _ q' hq
  unfold term
  rw [hw]

/-- The array of products after the run. -/
theorem arr3 (c : Dev nD) : (dats m 0 c).arrAt 3 cfg0.N = outAll (m ((c.tc : Thread nD τ).loc main_arg0)) (m ((c.tc : Thread nD τ).loc main_arg1))
      (m ((c.tc : Thread nD τ).loc main_arg2)) := by
  refine (dats m 0 c).arrAt_eq_of_covers 3 _ (by decide +kernel) fun t _ y => ?_
  have ht : t.val < 32 := Nat.lt_of_lt_of_eq t.isLt N_0
  have h0 : (y 0).val < 24 := (y 0).isLt
  have h1 : (y 1).val < 512 := (y 1).isLt
  have e := after3_apply m c t ⟨(y 0).val, h0⟩ ⟨(y 1).val, h1⟩ ⟨512 * t.val + (y 1).val, by omega⟩ rfl
  blk_simp
  refine (show _ = (dats m 0 c).after 3 t (ix2 (⟨(y 0).val, h0⟩ : Fin 24) (⟨(y 1).val, h1⟩ : Fin 512)) from ?_).trans (e.trans ?_)
  · refine congrArg ((dats m 0 c).after 3 t) ?_
    funext a
    match a with
    | ⟨0, _⟩ => rfl
    | ⟨1, _⟩ => rfl
  · refine congrArg (outAll _ _ _) ?_
    funext a
    match a with
    | ⟨0, _⟩ => exact Fin.ext (by blk_simp; rw [index3]; show (y 0).val = 0 * 24 + (y 0).val; omega)
    | ⟨1, _⟩ => exact Fin.ext (by blk_simp; rw [index3]; show 512 * t.val + (y 1).val = t.val * 512 + (y 1).val; omega)

/-- The last point. -/
def last0 : Fin cfg0.N := ⟨31, by have : cfg0.N = 32 := N_0; omega⟩

/-- The array of codes after the run. -/
theorem arr4 (c : Dev nD) : (dats m 0 c).arrAt 4 cfg0.N = codesV (acts (m ((c.tc : Thread nD τ).loc main_arg0))) := by
  refine (dats m 0 c).arrAt_eq_of_after_last 4 last0 (by decide +kernel) _ fun j => ?_
  rw [after0_4, actsIn_eq]
  rfl

/-- The array of scales after the run. -/
theorem arr5 (c : Dev nD) : (dats m 0 c).arrAt 5 cfg0.N = scalesV (acts (m ((c.tc : Thread nD τ).loc main_arg0))) := by
  refine (dats m 0 c).arrAt_eq_of_after_last 5 last0 (by decide +kernel) _ fun j => ?_
  rw [after0_5, actsIn_eq]
  rfl

/-- The run: the three results, and the arguments unchanged. -/
theorem run_value : θ_run defs (onTc (τ := τ) (main (F := Ideal))) ⟨m, fun _ => 0, ρ⟩ (fun r => ∀ c : Dev nD,
      r.2.mem ((c.tc : Thread nD τ).loc main_v1_0) = outAll (m ((c.tc : Thread nD τ).loc main_arg0)) (m ((c.tc : Thread nD τ).loc main_arg1))
        (m ((c.tc : Thread nD τ).loc main_arg2))
      ∧ r.2.mem ((c.tc : Thread nD τ).loc main_v1_1) = codesV (acts (m ((c.tc : Thread nD τ).loc main_arg0)))
      ∧ r.2.mem ((c.tc : Thread nD τ).loc main_v1_2) = scalesV (acts (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.out_eq c 3).trans (arr3 m c), (h.1.out_eq c 4).trans (arr4 m c),
    (h.1.out_eq c 5).trans (arr5 m c), h.2 c⟩) (θ_run_and (run_main m ρ) (unchanged m ρ))

end Cert.KernelIdeal.Gen

end
-- ==== Proof.RefValue.lean ====
/- The reference's three results over the extended reals, each an explicit function of the three arguments. -/
module

public import proofs.«01_k».proof.Proof.Gen.ReferenceIdeal.Run
public import proofs.«01_k».proof.Proof.Gen.ReferenceIdeal.Read
public import proofs.«01_k».proof.Proof.KernelValue
public import Idealize.ShloMosaic.Lib.KernelVsHost

@[expose] public section

set_option maxRecDepth 16384

noncomputable section

namespace Cert.ReferenceIdeal.Entry

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Tactic
open Cert.Scale
open Cert.KernelIdeal.Gen (acts row wrow code)

/-! ### The quantiser, array by array -/

/-- The activations in groups of 128. -/
def xg (a : FVec Ideal S24x1x4096 .bf16) : FVec Ideal S24x32x128 .f32 :=
  shapeCast S24x32x128 (extf .f32 a bitsLt_bf16_f32) shapeCasts_S24x1x4096_S24x32x128

/-- Each group's greatest magnitude over 448. -/
def magV (a : FVec Ideal S24x1x4096 .bf16) : FVec Ideal S24x32 .f32 :=
  mulf (Host.reduce FloatOps.maximumf (Host.absf (xg a)) (constant S_ .f32 0xFF800000#32) reducesTo_S24x32x128_S24x32_d2 h_S_)
    (broadcastInDim S24x32 ![] bcast_S_S24x32 (constant S_ .f32 0x3B124925#32))

/-- Each group's exponent. -/
def expV (a : FVec Ideal S24x1x4096 .bf16) : FVec Ideal S24x32 .f32 :=
  select (cmpf .olt (magV a) (broadcastInDim S24x32 ![] bcast_S_S24x32 (constant S_ .f32 0x00800000#32)))
    (broadcastInDim S24x32 ![] bcast_S_S24x32 (id (constant S_ .f32 0x00000000#32)))
    (addf (Host.floor (Host.divf (Host.log (magV a)) (broadcastInDim S24x32 ![] bcast_S_S24x32 (id (Host.log (constant S_ .f32 0x40000000#32))))))
      (broadcastInDim S24x32 ![] bcast_S_S24x32 (constant S_ .f32 0x3F800000#32)))

/-- Each group's scale. -/
def scaleV (a : FVec Ideal S24x1x4096 .bf16) : FVec Ideal S24x32 .f32 :=
  Host.powf (broadcastInDim S24x32 ![] bcast_S_S24x32 (constant S_ .f32 0x40000000#32)) (expV a)

/-- Each group's inverse scale. -/
def invV (a : FVec Ideal S24x1x4096 .bf16) : FVec Ideal S24x32 .f32 :=
  Host.powf (broadcastInDim S24x32 ![] bcast_S_S24x32 (constant S_ .f32 0x40000000#32)) (Host.negf (expV a))

/-- The codes before their cast, in groups. -/
def qV (a : FVec Ideal S24x1x4096 .bf16) : FVec Ideal S24x32x128 .f32 :=
  minimumf (broadcastInDim S24x32x128 ![] bcast_S_S24x32x128 (id (constant S_ .f32 0x43E00000#32)))
    (maximumf (broadcastInDim S24x32x128 ![] bcast_S_S24x32x128 (id (constant S_ .f32 0xC3E00000#32)))
      (mulf (xg a) (broadcastInDim S24x32x128 ![0, 1, 2] bcast_S24x32x1_S24x32x128_0_1_2
        (broadcastInDim S24x32x1 ![0, 1] bcast_S24x32_S24x32x1_0_1 (invV a)))))

/-- The codes before their cast. -/
def qFlat (a : FVec Ideal S24x1x4096 .bf16) : FVec Ideal S24x4096 .f32 :=
  shapeCast S24x4096 (qV a) shapeCasts_S24x32x128_S24x4096

/-! ### The quantiser, entry by entry -/

/-- An activation, found by its group. -/
theorem xg_apply (a : FVec Ideal S24x1x4096 .bf16) (t : Fin 24) (g : Fin 32) (k : Fin 128) :
    xg a (ix3 t g k) = row (acts a) t g k := by
  unfold xg
  refine shapeCast_apply (s := S24x1x4096) (t := S24x32x128) _ _ _ (ix3 t (0 : Fin 1) (⟨128 * g.val + k.val, by omega⟩ : Fin 4096)) ?_
  refine (Shape.rowMajor_val_three (ix3 t (0 : Fin 1) (⟨128 * g.val + k.val, by omega⟩ : Fin 4096))).trans
    (Eq.trans ?_ (Shape.rowMajor_val_three (ix3 t g k)).symm)
  show (t.val * 1 + 0) * 4096 + (128 * g.val + k.val) = (t.val * 32 + g.val) * 128 + k.val
  omega

/-- The reduction over a group's entries. -/
theorem reduces_axis : S24x32x128.Reduces [2] S24x32 := by decide +kernel

/-- The index of an entry of a group. -/
theorem lift_axis (t : Fin 24) (g : Fin 32) (k : Fin 128) : reduces_axis.lift (ix2 t g) k = ix3 t g k := by
  funext b
  match b with
  | ⟨0, _⟩ => rfl
  | ⟨1, _⟩ => rfl
  | ⟨2, _⟩ => rfl

/-- The greatest magnitude of each group of any array. -/
theorem reduce_apply (x : FVec Ideal S24x32x128 .f32) (t : Fin 24) (g : Fin 32) :
    Host.reduce (FloatOps.maximumf (F := Ideal) (φ := .f32)) (Host.absf x) (constant S_ .f32 0xFF800000#32) reducesTo_S24x32x128_S24x32_d2 h_S_ (ix2 t g)
      = Finset.univ.fold max (Ideal.ofBits .f32 0xFF800000#32) fun k : Fin 128 => max (x (ix3 t g k)) (-(x (ix3 t g k))) := by
  refine (Host.reduce_eq_fold_single (FloatOps.maximumf (F := Ideal) (φ := .f32)) (Host.absf x) (constant S_ .f32 0xFF800000#32)
    reducesTo_S24x32x128_S24x32_d2 reduces_axis h_S_ (ix2 t g)).trans (Finset.fold_congr fun k _ => ?_)
  exact congrArg (fun i => max (x i) (-(x i))) (lift_axis t g k)

/-- A group's greatest magnitude over 448. -/
theorem magV_apply (a : FVec Ideal S24x1x4096 .bf16) (t : Fin 24) (g : Fin 32) :
    magV a (ix2 t g) = mag (row (acts a) t g) := by
  unfold magV mag
  rw [mulf_apply, reduce_apply]
  simp only [xg_apply]
  rfl

/-- A group's exponent. -/
theorem expV_apply (a : FVec Ideal S24x1x4096 .bf16) (t : Fin 24) (g : Fin 32) :
    expV a (ix2 t g) = rExp (mag (row (acts a) t g)) := by
  rw [← magV_apply]
  unfold expV rExp
  generalize magV a = v
  rfl

/-- A group's scale. -/
theorem scaleV_apply (a : FVec Ideal S24x1x4096 .bf16) (t : Fin 24) (g : Fin 32) :
    scaleV a (ix2 t g) = rScale (mag (row (acts a) t g)) := by
  unfold rScale scaleV
  rw [← expV_apply]
  generalize expV a = e
  rfl

/-- A group's inverse scale. -/
theorem invV_apply (a : FVec Ideal S24x1x4096 .bf16) (t : Fin 24) (g : Fin 32) :
    invV a (ix2 t g) = rInv (mag (row (acts a) t g)) := by
  unfold rInv invV
  rw [← expV_apply]
  generalize expV a = e
  rfl

/-- The code of entry `k` of a group. -/
def rcode (r : Fin 128 → EReal) (k : Fin 128) : EReal := clip (r k * rInv (mag r))

/-- A code, found by its group. -/
theorem qV_apply (a : FVec Ideal S24x1x4096 .bf16) (t : Fin 24) (g : Fin 32) (k : Fin 128) :
    qV a (ix3 t g k) = rcode (row (acts a) t g) k := by
  unfold rcode
  rw [← xg_apply, ← invV_apply]
  have e : broadcastInDim S24x32x128 ![0, 1, 2] bcast_S24x32x1_S24x32x128_0_1_2
      (broadcastInDim S24x32x1 ![0, 1] bcast_S24x32_S24x32x1_0_1 (invV a)) (ix3 t g k) = invV a (ix2 t g) := by
    refine (broadcastInDim_apply _ _ _ _ (ix3 t g (0 : Fin 1)) fun b => ?_).trans (broadcastInDim_apply _ _ _ _ (ix2 t g) fun b => ?_)
    · match b with
      | ⟨0, _⟩ => rfl
      | ⟨1, _⟩ => rfl
      | ⟨2, _⟩ => rfl
    · match b with
      | ⟨0, _⟩ => rfl
      | ⟨1, _⟩ => rfl
  rw [← e]
  rfl

/-- A code, found by its column. -/
theorem qFlat_apply (a : FVec Ideal S24x1x4096 .bf16) (t : Fin 24) (g : Fin 32) (k : Fin 128) (j : Fin 4096) (hj : j.val = 128 * g.val + k.val) :
    qFlat a (ix2 t j) = rcode (row (acts a) t g) k := by
  rw [← qV_apply]
  refine shapeCast_apply (s := S24x32x128) (t := S24x4096) _ _ _ (ix3 t g k) ?_
  refine (Shape.rowMajor_val_three (ix3 t g k)).trans (Eq.trans ?_ (Shape.rowMajor_val_two (ix2 t j)).symm)
  show (t.val * 32 + g.val) * 128 + k.val = t.val * 4096 + j.val
  omega

/-! ### The region -/

variable (m : (ℓ : Loc nD τ sig) → Buf (Elt Ideal) ℓ)

set_option maxRecDepth 8192 in
set_option maxHeartbeats 2000000 in
/-- The region's first operand: the codes before their cast. -/
theorem entry_q (c : Dev nD) : V m c main_v26 = qFlat (m ((c.tc : Thread nD τ).loc main_arg0)) := by
  show Gen.V0 m c (Proc.devRef .tc main_v26) = _
  simp only [Gen.V0, Gen.hostOps0, Gen.hostOps0_1, Gen.hostOps0_2, Gen.hostOps0_3, Gen.hostOps0_4, TRef.binary, TRef.ternary, TRef.unary, TRef.toBuf, TRef.ofBuf, cast_eq, List.flatten_cons, List.flatten_nil, List.append_nil, List.cons_append, List.nil_append]
  after_results_simp <;> rfl

/-- The region's one point. -/
def only0 : Fin cfg0.N := ⟨0, by have : cfg0.N = 1 := N_0; omega⟩

/-- The first operand's block is the whole array. -/
theorem index0 : ∀ t : Fin cfg0.N, win0_0.index t = ![0, 0] := by decide +kernel
/-- The second operand's block is the whole array. -/
theorem index1 : ∀ t : Fin cfg0.N, win0_1.index t = ![0, 0] := by decide +kernel

/-- The region reads the codes before their cast, -/
theorem iblk0_eq (c : Dev nD) (t : Fin cfg0.N) : iblk m c 0 t = qFlat (m ((c.tc : Thread nD τ).loc main_arg0)) := by
  rw [← entry_q]
  funext y
  unfold iblk
  blk_simp
  refine congrArg (V m c main_v26) ?_
  funext a
  match a with
  | ⟨0, _⟩ => exact Fin.ext (by blk_simp; rw [index0]; show 0 * 24 + (y 0).val = (y 0).val; omega)
  | ⟨1, _⟩ => exact Fin.ext (by blk_simp; rw [index0]; show 0 * 4096 + (y 1).val = (y 1).val; omega)

/-- and the weights. -/
theorem iblk1_eq (c : Dev nD) (t : Fin cfg0.N) : iblk m c 1 t = m ((c.tc : Thread nD τ).loc main_arg1) := by
  rw [← V_main_arg1 m c]
  funext y
  unfold iblk
  blk_simp
  refine congrArg (V m c main_arg1) ?_
  funext a
  match a with
  | ⟨0, _⟩ => exact Fin.ext (by blk_simp; rw [index1]; show 0 * 16384 + (y 0).val = (y 0).val; omega)
  | ⟨1, _⟩ => exact Fin.ext (by blk_simp; rw [index1]; show 0 * 4096 + (y 1).val = (y 1).val; omega)

/-- The offsets of a whole array are zero. -/
theorem off0 : (![0, 0] : Fin 2 → Nat) = fun _ => 0 := funext fun a => by
  match a with
  | ⟨0, _⟩ => rfl
  | ⟨1, _⟩ => rfl

/-- The point leaves the codes, -/
theorem after2 (c : Dev nD) (t : Fin cfg0.N) : (dats m 0 c).after 2 t = qFlat (m ((c.tc : Thread nD τ).loc main_arg0)) := by
  rw [after0_2, iblk0_eq]
  unfold out0_2
  rw [View.canon_unit_zero off0, View.ld_unit_zero off0]
  exact shapeCast_self (qFlat (m ((c.tc : Thread nD τ).loc main_arg0))) _

/-- the codes in the wider format, -/
theorem after3 (c : Dev nD) (t : Fin cfg0.N) : (dats m 0 c).after 3 t = qFlat (m ((c.tc : Thread nD τ).loc main_arg0)) := by
  rw [after0_3, iblk0_eq]
  unfold out0_3
  rw [View.canon_unit_zero off0, View.ld_unit_zero off0]
  exact shapeCast_self (qFlat (m ((c.tc : Thread nD τ).loc main_arg0))) _

/-- and the weights in the wider format. -/
theorem after4 (c : Dev nD) (t : Fin cfg0.N) : (dats m 0 c).after 4 t = m ((c.tc : Thread nD τ).loc main_arg1) := by
  rw [after0_4, iblk1_eq]
  unfold out0_4
  rw [View.canon_unit_zero off0, View.ld_unit_zero off0]
  rfl

/-- The region leaves the codes, -/
theorem reg0 (c : Dev nD) : Value.reg_main_v27_0 m c = qFlat (m ((c.tc : Thread nD τ).loc main_arg0)) := by
  refine (dats m 0 c).arrAt_eq_of_after_last 2 only0 (by decide +kernel) _ fun j => ?_
  rw [after2]
  rfl

/-- the codes in the wider format, -/
theorem reg1 (c : Dev nD) : Value.reg_main_v27_1 m c = qFlat (m ((c.tc : Thread nD τ).loc main_arg0)) := by
  refine (dats m 0 c).arrAt_eq_of_after_last 3 only0 (by decide +kernel) _ fun j => ?_
  rw [after3]
  rfl

/-- and the weights in the wider format. -/
theorem reg2 (c : Dev nD) : Value.reg_main_v27_2 m c = m ((c.tc : Thread nD τ).loc main_arg1) := by
  refine (dats m 0 c).arrAt_eq_of_after_last 4 only0 (by decide +kernel) _ fun j => ?_
  rw [after4]
  rfl

/-! ### The product -/

/-- The word of zero. -/
theorem zero_eq : Ideal.ofBits .f32 0x00000000#32 = 0 := ofBits_zero.trans EReal.coe_zero

/-- The weight scales, repeated over their blocks' columns and set beside the groups, at an entry. -/
theorem scales_apply (s : FVec Ideal S128x32 .f32) (g : Fin 32) (t : Fin 24) (n : Fin 16384) :
    Read.val_main_v39 (F := Ideal) s (ix3 g t n) = s (ix2 ⟨n.val / 128, by omega⟩ g) := by
  rw [Read.val_main_v39_apply, Read.val_main_v36_apply, Read.val_main_v35_apply, Read.val_main_v34_apply, Read.val_main_v33_apply]
  refine congrArg s ?_
  funext b
  match b with
  | ⟨0, _⟩ => exact Fin.ext (by show (n.val * 32 + g.val) / 4096 = n.val / 128; omega)
  | ⟨1, _⟩ => exact Fin.ext (by show (n.val * 32 + g.val) % 32 = g.val; omega)

/-- The activations' scales at an entry. -/
theorem act_apply (e : FVec Ideal S24x32 .f32) (g : Fin 32) (t : Fin 24) (n : Fin 16384) :
    Read.val_main_v37 (F := Ideal) e (ix3 g t n) = e (ix2 t g) := by
  rw [Read.val_main_v37_apply, Read.val_main_v32_apply, Read.val_main_v31_apply]
  refine congrArg e ?_
  funext b
  match b with
  | ⟨0, _⟩ => rfl
  | ⟨1, _⟩ => rfl

/-- A group's products at an entry. -/
theorem dot_apply (a : FVec Ideal S24x1x4096 .bf16) (w : FVec Ideal S16384x4096 .f32) (g : Fin 32) (t : Fin 24) (n : Fin 16384) :
    Read.val_main_v30 (F := Ideal) (qFlat a) w (ix3 g t n) = ∑ k : Fin 128, rcode (row (acts a) t g) k * wrow w n g k := by
  rw [Read.val_main_v30_apply]
  refine Finset.sum_congr rfl fun k _ => ?_
  rw [Read.val_main_v28_apply, Read.val_main_v29_apply]
  have e1 : Read.idx_main_v28 (Read.lidx_main_v30 (ix3 g t n) k) = ix2 t (⟨128 * g.val + k.val, by omega⟩ : Fin 4096) := by
    funext b
    match b with
    | ⟨0, _⟩ => exact Fin.ext (by show ((t.val * 32 + g.val) * 128 + k.val) / 4096 = t.val; omega)
    | ⟨1, _⟩ => exact Fin.ext (by show ((t.val * 32 + g.val) * 128 + k.val) % 4096 = 128 * g.val + k.val; omega)
  have e2 : Read.idx_main_v29 (Read.ridx_main_v30 (ix3 g t n) k) = ix2 n (⟨128 * g.val + k.val, by omega⟩ : Fin 4096) := by
    funext b
    match b with
    | ⟨0, _⟩ => exact Fin.ext (by show ((n.val * 32 + g.val) * 128 + k.val) / 4096 = n.val; omega)
    | ⟨1, _⟩ => exact Fin.ext (by show ((n.val * 32 + g.val) * 128 + k.val) % 4096 = 128 * g.val + k.val; omega)
  rw [e1, e2, qFlat_apply a t g k _ rfl]
  rfl

/-- The reference's first result. -/
abbrev outR (a : FVec Ideal S24x1x4096 .bf16) (w : FVec Ideal S16384x4096 .f32) (s : FVec Ideal S128x32 .f32) : FVec Ideal S24x16384 .bf16 :=
  Read.val_main_v42 (F := Ideal) s (qFlat a) w (scaleV a)

/-- The first result at an entry: each group's products, scaled by its two scales, summed. -/
theorem outR_apply (a : FVec Ideal S24x1x4096 .bf16) (w : FVec Ideal S16384x4096 .f32) (s : FVec Ideal S128x32 .f32) (t : Fin 24) (n : Fin 16384) :
    outR a w s (ix2 t n) = ∑ g : Fin 32, (∑ k : Fin 128, rcode (row (acts a) t g) k * wrow w n g k)
      * rScale (mag (row (acts a) t g)) * s (ix2 ⟨n.val / 128, by omega⟩ g) := by
  refine (Read.val_main_v42_apply (F := Ideal) s (qFlat a) w (scaleV a) (ix2 t n)).trans ?_
  refine (Read.val_main_v41_apply s (qFlat a) w (scaleV a) (ix2 t n)).trans ?_
  refine (congrArg (· + _) (show _ = (0 : EReal) from zero_eq)).trans ((zero_add _).trans ?_)
  refine Finset.sum_congr rfl fun g _ => ?_
  have e : Read.idx_main_v41 (ix2 t n) g = ix3 g t n := by
    funext b
    match b with
    | ⟨0, _⟩ => rfl
    | ⟨1, _⟩ => rfl
    | ⟨2, _⟩ => rfl
  rw [e, Read.val_main_v40_apply, Read.val_main_v38_apply, dot_apply, act_apply, scales_apply, scaleV_apply]
  rfl

/-- The run: the three results, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v42) = outR (m ((c.tc : Thread nD τ).loc main_arg0)) (m ((c.tc : Thread nD τ).loc main_arg1))
        (m ((c.tc : Thread nD τ).loc main_arg2))
      ∧ r.2.mem ((c.tc : Thread nD τ).loc main_v27_0) = qFlat (m ((c.tc : Thread nD τ).loc main_arg0))
      ∧ r.2.mem ((c.tc : Thread nD τ).loc main_v18) = scaleV (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Value.run m ρ)
  obtain ⟨h0, h1, h2, h3⟩ := h c
  rw [reg1, reg2] at h0
  exact ⟨h0, h1.trans (reg0 m c), h2, h3⟩

end Cert.ReferenceIdeal.Entry

end
-- ==== Proof.Agree.lean ====
/- Under the precondition every group's greatest magnitude is a real number below `2 ^ 126`, where the kernel's scale and
   the reference's are one: so are the three results. -/
module

public import proofs.«01_k».proof.Proof.RefValue
public import proofs.«01_k».proof.Pre_finite

@[expose] public section

set_option maxRecDepth 16384

noncomputable section

namespace Cert.Agree

open Idealize.ShloMosaic Idealize.ShloMosaic.ValueIdx
open Cert.Scale
open Cert.KernelIdeal.Gen (acts row wrow code term codesV scalesV outAll codesV_apply scalesV_apply)
open Cert.ReferenceIdeal.Entry (rcode qFlat scaleV outR qFlat_apply scaleV_apply outR_apply)
open Cert.KernelIdeal (S24x1x4096 S24x4096 S16384x4096 S128x32 S24x32 S24x16384)

/-! ### Three words -/

/-- The word of the greatest finite activation. -/
theorem ofBits_bound : Ideal.ofBits .f32 0x7F7F0000#32 = (((255 : ℝ) * 2 ^ (120 : ℤ) : ℝ) : EReal) := by
  simp [Ideal.ofBits, Ideal.ieee, -EReal.coe_mul]
  norm_num

/-- The word of 1/448, rounded. -/
theorem ofBits_rec448 : Ideal.ofBits .f32 0x3B124925#32 = (((9586981 : ℝ) * 2 ^ (-32 : ℤ) : ℝ) : EReal) := by
  simp [Ideal.ofBits, Ideal.ieee, -EReal.coe_mul]

/-- The word of minus infinity. -/
theorem ofBits_bot : Ideal.ofBits .f32 0xFF800000#32 = ⊥ := by
  simp [Ideal.ofBits, Ideal.ieee, -EReal.coe_mul]

/-! ### The precondition -/

/-- Every activation is at most the greatest finite value of its format in magnitude. -/
def Bounded (a : S24x1x4096.Idx → EReal) : Prop := ∀ y, max (a y) (-(a y)) ≤ Ideal.ofBits .f32 0x7F7F0000#32

/-- The precondition bounds the activations. -/
theorem bounded_of_pre [Cert.Pre_finite.Facts] (a : FVec Ideal S24x1x4096 .bf16) (w : FVec Ideal S16384x4096 .fp8e4m3) (s : FVec Ideal S128x32 .f32)
    (h : Cert.Pre_finite.fn (F := Ideal) a w s = fun _ => 1#1) : Bounded a := by
  intro y
  have h' : Ideal.cmp .ole (max (a y) (-(a y))) (Ideal.ofBits .f32 0x7F7F0000#32) = 1#1 := congrFun h y
  by_contra hn
  have : Ideal.cmp .ole (max (a y) (-(a y))) (Ideal.ofBits .f32 0x7F7F0000#32) = 0#1 :=
    congrArg BitVec.ofBool (decide_eq_false hn)
  rw [this] at h'
  exact absurd h' (by decide)

/-- A bounded group's greatest magnitude over 448 is a real number below `2 ^ 126`. -/
theorem mag_real (r : Fin 128 → EReal) (h : ∀ k, max (r k) (-(r k)) ≤ Ideal.ofBits .f32 0x7F7F0000#32) :
    ∃ v : ℝ, mag r = (v : EReal) ∧ 0 ≤ v ∧ v < (2 : ℝ) ^ (126 : ℤ) := by
  have hle : Finset.univ.fold max (Ideal.ofBits .f32 0xFF800000#32) (fun k => max (r k) (-(r k))) ≤ Ideal.ofBits .f32 0x7F7F0000#32 :=
    (Finset.fold_max_le _).mpr ⟨by rw [ofBits_bot]; exact bot_le, fun k _ => h k⟩
  have hge : (0 : EReal) ≤ Finset.univ.fold max (Ideal.ofBits .f32 0xFF800000#32) (fun k => max (r k) (-(r k))) := by
    refine (Finset.le_fold_max _).mpr (.inr ⟨0, Finset.mem_univ _, ?_⟩)
    rcases le_total 0 (r 0) with h0 | h0
    · exact le_max_of_le_left h0
    · exact le_max_of_le_right (EReal.neg_nonneg.mpr h0)
  unfold mag
  generalize Finset.univ.fold max (Ideal.ofBits .f32 0xFF800000#32) (fun k => max (r k) (-(r k))) = q at hle hge
  rw [ofBits_bound] at hle
  rw [ofBits_rec448]
  induction q using EReal.rec with
  | bot => exact absurd hge (by simp)
  | top => exact absurd hle (not_le.mpr (EReal.coe_lt_top _))
  | coe q =>
    have h1 : q ≤ 255 * 2 ^ (120 : ℤ) := EReal.coe_le_coe_iff.mp hle
    have h0 : 0 ≤ q := EReal.coe_nonneg.mp hge
    refine ⟨q * (9586981 * 2 ^ (-32 : ℤ)), (EReal.coe_mul _ _).symm, by positivity, ?_⟩
    refine lt_of_le_of_lt (mul_le_mul_of_nonneg_right h1 (by positivity)) ?_
    norm_num

/-- Each group of a bounded array has a real, nonnegative magnitude over 448, below `2 ^ 126`. -/
theorem row_bounded {a : S24x1x4096.Idx → EReal} (h : Bounded a) (t : Fin 24) (g : Fin 32) :
    ∃ v : ℝ, mag (row (acts a) t g) = (v : EReal) ∧ 0 ≤ v ∧ v < (2 : ℝ) ^ (126 : ℤ) :=
  mag_real _ fun _ => h _

/-! ### The results -/

/-- A group's scale is the same in both. -/
theorem scale_eq {a : S24x1x4096.Idx → EReal} (h : Bounded a) (t : Fin 24) (g : Fin 32) :
    kScale (mag (row (acts a) t g)) = rScale (mag (row (acts a) t g)) := by
  obtain ⟨v, e, h0, h1⟩ := row_bounded h t g
  rw [e]
  exact scale_agree v h0 h1

/-- A group's codes are the same in both. -/
theorem code_eq {a : S24x1x4096.Idx → EReal} (h : Bounded a) (t : Fin 24) (g : Fin 32) (k : Fin 128) :
    code (row (acts a) t g) k = rcode (row (acts a) t g) k := by
  obtain ⟨v, e, h0, h1⟩ := row_bounded h t g
  unfold code rcode
  rw [e, inv_agree v h0 h1]

/-- The scales are one. -/
theorem scales_eq {a : S24x1x4096.Idx → EReal} (h : Bounded a) : scalesV (F := Ideal) (acts a) = scaleV a := by
  funext y
  obtain ⟨t, g, rfl⟩ : ∃ (t : Fin 24) (g : Fin 32), y = ix2 t g := ⟨y 0, y 1, eq_ix2 y⟩
  exact (scalesV_apply (acts a) t g).trans ((scale_eq h t g).trans (scaleV_apply a t g).symm)

/-- The codes are one. -/
theorem codes_eq {a : S24x1x4096.Idx → EReal} (h : Bounded a) : codesV (F := Ideal) (acts a) = qFlat a := by
  funext y
  obtain ⟨t, j, rfl⟩ : ∃ (t : Fin 24) (j : Fin 4096), y = ix2 t j := ⟨y 0, y 1, eq_ix2 y⟩
  obtain ⟨g, k, hj⟩ : ∃ (g : Fin 32) (k : Fin 128), j = ⟨128 * g.val + k.val, by omega⟩ :=
    ⟨⟨j.val / 128, by omega⟩, ⟨j.val % 128, by omega⟩, Fin.ext (by show j.val = 128 * (j.val / 128) + j.val % 128; omega)⟩
  subst hj
  exact (codesV_apply (acts a) t g k).trans ((code_eq h t g k).trans (qFlat_apply a t g k _ rfl).symm)

/-- The products are one. -/
theorem out_eq {a : S24x1x4096.Idx → EReal} (h : Bounded a) (w : S16384x4096.Idx → EReal) (s : S128x32.Idx → EReal) :
    outAll a w s = outR a w s := by
  funext y
  obtain ⟨t, n, rfl⟩ : ∃ (t : Fin 24) (n : Fin 16384), y = ix2 t n := ⟨y 0, y 1, eq_ix2 y⟩
  refine Eq.trans ?_ (outR_apply a w s t n).symm
  refine Finset.sum_congr rfl fun g _ => ?_
  unfold term
  refine congrArg₂ (· * ·) (congrArg₂ (· * ·) (Finset.sum_congr rfl fun k _ => ?_) (scale_eq h t g)) rfl
  exact congrArg (· * _) (code_eq h t g k)

end Cert.Agree

end
-- ==== Proof.lean ====
module

public import proofs.«01_k».proof.Defs
public import proofs.«01_k».proof.Proof.Frames
public import proofs.«01_k».proof.Proof.Agree
public import proofs.«01_k».proof.Proof.Gen.Pre_finite

@[expose] public section

set_option maxRecDepth 16384

noncomputable section

namespace Cert.Proof

open Idealize.ShloMosaic Idealize.SL.Sem

/-- Over the extended reals the kernel and the reference, from equal arguments whose activations are finite, end with
    equal results. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hb : ∀ c : Dev Cert.KernelIdeal.nD, Agree.Bounded (m ((c.tc : Thread Cert.KernelIdeal.nD Cert.KernelIdeal.τ).loc Cert.KernelIdeal.main_arg0)) :=
    fun c => Agree.bounded_of_pre _ _ _ (hpre c)
  refine ⟨_, _, _, Cert.KernelIdeal.Gen.run_value m g, (θ_run _ _ _).mono (fun r h c => ?_) (Cert.ReferenceIdeal.Entry.run_value m' g')⟩
  obtain ⟨h0, h1, h2, h3⟩ := h c
  obtain ⟨a0, a1, a2⟩ := hargs c
  rw [a0, a1, a2] at h0
  rw [a0] at h1 h2
  exact ⟨h0.trans (Agree.out_eq (hb c) _ _).symm, h1.trans (Agree.codes_eq (hb c)).symm, h2.trans (Agree.scales_eq (hb c)).symm, h3⟩

/-- Everything claimed. -/
theorem claim : Cert.Claim :=
  ⟨Cert.Kernel.Gen.facts, Cert.KernelIdeal.Gen.facts, Cert.ReferenceIdeal.Gen.facts, Cert.Pre_finite.Gen.facts,
    kernel_frame, kernelIdeal_frame, fun m g _ => Cert.KernelIdeal.Gen.frame (F := Ideal) m g,
    reference_frame, fun m g _ => Cert.ReferenceIdeal.Gen.frame (F := Ideal) m g, trivial, algebraic⟩

end Cert.Proof

end
